-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![1024, 512]⟩ (Layout.meshBlock [2, 2, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S304x512 : Shape := ⟨2, ![304, 512]⟩
abbrev S9 : Shape := ⟨1, ![9]⟩
abbrev S7 : Shape := ⟨1, ![7]⟩
abbrev S_ : Shape := ⟨0, ![]⟩
abbrev S1 : Shape := ⟨1, ![1]⟩
abbrev S48x512 : Shape := ⟨2, ![48, 512]⟩
abbrev S40x512 : Shape := ⟨2, ![40, 512]⟩
abbrev S32x512 : Shape := ⟨2, ![32, 512]⟩
abbrev S24x512 : Shape := ⟨2, ![24, 512]⟩
abbrev S16x512 : Shape := ⟨2, ![16, 512]⟩
abbrev S8x512 : Shape := ⟨2, ![8, 512]⟩

abbrev nBuf : Space → Nat
  | .hbm => 2
  | .vmem => 3
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S304x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_7 : BitVec 32 := 8#32
  let v15 : BitVec 32 := Scalar.muli v9 c8_i32_7
  let v16 : BitVec 32 := Scalar.addi c0_i32 v15
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_8 : BitVec 32 := 4#32
  let v17 : BitVec 32 := Scalar.muli v5 c4_i32_8
  let v18 : BitVec 32 := Scalar.addi v16 v17
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v19 : BitVec 32 := Scalar.muli v8 c1_i32_9
  let v20 : BitVec 32 := Scalar.addi v18 v19
  v20.toNat
def k0_dev2 (d0 : Dev nD) : Nat :=
  let c0_i32_12 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_11 : BitVec 32 := 8#32
  let v21 : BitVec 32 := Scalar.muli v2 c8_i32_11
  let v22 : BitVec 32 := Scalar.addi c0_i32_12 v21
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_13 : BitVec 32 := 4#32
  let v23 : BitVec 32 := Scalar.muli v10 c4_i32_13
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_14 : BitVec 32 := 1#32
  let v25 : BitVec 32 := Scalar.muli v8 c1_i32_14
  let v26 : BitVec 32 := Scalar.addi v24 v25
  v26.toNat
def k0_off1 (d0 : Dev nD) (c0_i32_16 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c256_i32 : BitVec 32 := 256#32
  let v11 : BitVec 32 := Scalar.muli v5 c256_i32
  let v27 : BitVec 32 := Scalar.addi v11 c0_i32_16
  let c0_i32_25 : BitVec 32 := 0#32
  ![v27.toNat, 0]
def k0_dev3 (d0 : Dev nD) : Nat :=
  let c0_i32_20 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_19 : BitVec 32 := 8#32
  let v28 : BitVec 32 := Scalar.muli v9 c8_i32_19
  let v29 : BitVec 32 := Scalar.addi c0_i32_20 v28
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_21 : BitVec 32 := 4#32
  let v30 : BitVec 32 := Scalar.muli v5 c4_i32_21
  let v31 : BitVec 32 := Scalar.addi v29 v30
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_22 : BitVec 32 := 1#32
  let v32 : BitVec 32 := Scalar.muli v8 c1_i32_22
  let v33 : BitVec 32 := Scalar.addi v31 v32
  v33.toNat
def k0_off2 (d0 : Dev nD) (c48_i32 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c256_i32 : BitVec 32 := 256#32
  let v11 : BitVec 32 := Scalar.muli v5 c256_i32
  let v40 : BitVec 32 := Scalar.addi v11 c48_i32
  let c0_i32_34 : BitVec 32 := 0#32
  ![v40.toNat, 0]
def k0_dev4 (d0 : Dev nD) : Nat :=
  let c0_i32_29 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_28 : BitVec 32 := 8#32
  let v41 : BitVec 32 := Scalar.muli v9 c8_i32_28
  let v42 : BitVec 32 := Scalar.addi c0_i32_29 v41
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_30 : BitVec 32 := 4#32
  let v43 : BitVec 32 := Scalar.muli v5 c4_i32_30
  let v44 : BitVec 32 := Scalar.addi v42 v43
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_31 : BitVec 32 := 1#32
  let v45 : BitVec 32 := Scalar.muli v8 c1_i32_31
  let v46 : BitVec 32 := Scalar.addi v44 v45
  v46.toNat
def k0_dev5 (d0 : Dev nD) : Nat :=
  let c0_i32_38 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_37 : BitVec 32 := 8#32
  let v54 : BitVec 32 := Scalar.muli v9 c8_i32_37
  let v55 : BitVec 32 := Scalar.addi c0_i32_38 v54
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_39 : BitVec 32 := 4#32
  let v56 : BitVec 32 := Scalar.muli v5 c4_i32_39
  let v57 : BitVec 32 := Scalar.addi v55 v56
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_40 : BitVec 32 := 1#32
  let v58 : BitVec 32 := Scalar.muli v8 c1_i32_40
  let v59 : BitVec 32 := Scalar.addi v57 v58
  v59.toNat
def k0_off3 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c256_i32 : BitVec 32 := 256#32
  let v11 : BitVec 32 := Scalar.muli v5 c256_i32
  let c128_i32 : BitVec 32 := 128#32
  let v66 : BitVec 32 := Scalar.addi v11 c128_i32
  let c0_i32_51 : BitVec 32 := 0#32
  ![v66.toNat, 0]
def k0_dev6 (d0 : Dev nD) : Nat :=
  let c0_i32_46 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_45 : BitVec 32 := 8#32
  let v67 : BitVec 32 := Scalar.muli v9 c8_i32_45
  let v68 : BitVec 32 := Scalar.addi c0_i32_46 v67
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_47 : BitVec 32 := 4#32
  let v69 : BitVec 32 := Scalar.muli v5 c4_i32_47
  let v70 : BitVec 32 := Scalar.addi v68 v69
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48 : BitVec 32 := 1#32
  let v71 : BitVec 32 := Scalar.muli v8 c1_i32_48
  let v72 : BitVec 32 := Scalar.addi v70 v71
  v72.toNat
def k0_off4 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c256_i32 : BitVec 32 := 256#32
  let v11 : BitVec 32 := Scalar.muli v5 c256_i32
  let c160_i32 : BitVec 32 := 160#32
  let v79 : BitVec 32 := Scalar.addi v11 c160_i32
  let c0_i32_60 : BitVec 32 := 0#32
  ![v79.toNat, 0]
def k0_dev7 (d0 : Dev nD) : Nat :=
  let c0_i32_55 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_54 : BitVec 32 := 8#32
  let v80 : BitVec 32 := Scalar.muli v9 c8_i32_54
  let v81 : BitVec 32 := Scalar.addi c0_i32_55 v80
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_56 : BitVec 32 := 4#32
  let v82 : BitVec 32 := Scalar.muli v5 c4_i32_56
  let v83 : BitVec 32 := Scalar.addi v81 v82
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_57 : BitVec 32 := 1#32
  let v84 : BitVec 32 := Scalar.muli v8 c1_i32_57
  let v85 : BitVec 32 := Scalar.addi v83 v84
  v85.toNat
def k0_off5 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c256_i32 : BitVec 32 := 256#32
  let v11 : BitVec 32 := Scalar.muli v5 c256_i32
  let c184_i32 : BitVec 32 := 184#32
  let v92 : BitVec 32 := Scalar.addi v11 c184_i32
  let c0_i32_68 : BitVec 32 := 0#32
  ![v92.toNat, 0]
def k0_dev8 (d0 : Dev nD) : Nat :=
  let c0_i32_63 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_62 : BitVec 32 := 8#32
  let v93 : BitVec 32 := Scalar.muli v9 c8_i32_62
  let v94 : BitVec 32 := Scalar.addi c0_i32_63 v93
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_64 : BitVec 32 := 4#32
  let v95 : BitVec 32 := Scalar.muli v5 c4_i32_64
  let v96 : BitVec 32 := Scalar.addi v94 v95
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_65 : BitVec 32 := 1#32
  let v97 : BitVec 32 := Scalar.muli v8 c1_i32_65
  let v98 : BitVec 32 := Scalar.addi v96 v97
  v98.toNat
def k0_off6 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c256_i32 : BitVec 32 := 256#32
  let v11 : BitVec 32 := Scalar.muli v5 c256_i32
  let c200_i32 : BitVec 32 := 200#32
  let v105 : BitVec 32 := Scalar.addi v11 c200_i32
  let c0_i32_76 : BitVec 32 := 0#32
  ![v105.toNat, 0]
def k0_dev9 (d0 : Dev nD) : Nat :=
  let c0_i32_71 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_70 : BitVec 32 := 8#32
  let v106 : BitVec 32 := Scalar.muli v9 c8_i32_70
  let v107 : BitVec 32 := Scalar.addi c0_i32_71 v106
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_72 : BitVec 32 := 4#32
  let v108 : BitVec 32 := Scalar.muli v5 c4_i32_72
  let v109 : BitVec 32 := Scalar.addi v107 v108
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_73 : BitVec 32 := 1#32
  let v110 : BitVec 32 := Scalar.muli v8 c1_i32_73
  let v111 : BitVec 32 := Scalar.addi v109 v110
  v111.toNat
def k0_dev10 (d0 : Dev nD) : Nat :=
  let c0_i32_79 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_78 : BitVec 32 := 8#32
  let v119 : BitVec 32 := Scalar.muli v9 c8_i32_78
  let v120 : BitVec 32 := Scalar.addi c0_i32_79 v119
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_80 : BitVec 32 := 4#32
  let v121 : BitVec 32 := Scalar.muli v5 c4_i32_80
  let v122 : BitVec 32 := Scalar.addi v120 v121
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_81 : BitVec 32 := 1#32
  let v123 : BitVec 32 := Scalar.muli v8 c1_i32_81
  let v124 : BitVec 32 := Scalar.addi v122 v123
  v124.toNat
def k0_off7 (d0 : Dev nD) : Fin 2 → Nat :=
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_4 v5
  let c256_i32_5 : BitVec 32 := 256#32
  let v13 : BitVec 32 := Scalar.muli v12 c256_i32_5
  let c208_i32_85 : BitVec 32 := 208#32
  let v131 : BitVec 32 := Scalar.addi v13 c208_i32_85
  let c0_i32_94 : BitVec 32 := 0#32
  ![v131.toNat, 0]
def k0_dev11 (d0 : Dev nD) : Nat :=
  let c0_i32_89 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_88 : BitVec 32 := 8#32
  let v132 : BitVec 32 := Scalar.muli v9 c8_i32_88
  let v133 : BitVec 32 := Scalar.addi c0_i32_89 v132
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_90 : BitVec 32 := 4#32
  let v134 : BitVec 32 := Scalar.muli v5 c4_i32_90
  let v135 : BitVec 32 := Scalar.addi v133 v134
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_91 : BitVec 32 := 1#32
  let v136 : BitVec 32 := Scalar.muli v8 c1_i32_91
  let v137 : BitVec 32 := Scalar.addi v135 v136
  v137.toNat
def k0_off8 (d0 : Dev nD) (c0_i32_104 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c256_i32 : BitVec 32 := 256#32
  let v11 : BitVec 32 := Scalar.muli v5 c256_i32
  let v154 : BitVec 32 := Scalar.addi v11 c0_i32_104
  let v155 : Index := Scalar.indexCast v154
  let c0 : Index := 0#32
  ![v155.toNat, 0]
def k0_dev12 (d0 : Dev nD) : Nat :=
  let c0_i32_111 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_110 : BitVec 32 := 8#32
  let v162 : BitVec 32 := Scalar.muli v2 c8_i32_110
  let v163 : BitVec 32 := Scalar.addi c0_i32_111 v162
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_112 : BitVec 32 := 4#32
  let v164 : BitVec 32 := Scalar.muli v10 c4_i32_112
  let v165 : BitVec 32 := Scalar.addi v163 v164
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_113 : BitVec 32 := 1#32
  let v166 : BitVec 32 := Scalar.muli v8 c1_i32_113
  let v167 : BitVec 32 := Scalar.addi v165 v166
  v167.toNat
def k0_off9 (d0 : Dev nD) (c48_i32_125 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c256_i32 : BitVec 32 := 256#32
  let v11 : BitVec 32 := Scalar.muli v5 c256_i32
  let v184 : BitVec 32 := Scalar.addi v11 c48_i32_125
  let v185 : Index := Scalar.indexCast v184
  let c0_126 : Index := 0#32
  ![v185.toNat, 0]
def k0_dev13 (d0 : Dev nD) : Nat :=
  let c0_i32_132 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_131 : BitVec 32 := 8#32
  let v192 : BitVec 32 := Scalar.muli v2 c8_i32_131
  let v193 : BitVec 32 := Scalar.addi c0_i32_132 v192
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_133 : BitVec 32 := 4#32
  let v194 : BitVec 32 := Scalar.muli v10 c4_i32_133
  let v195 : BitVec 32 := Scalar.addi v193 v194
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_134 : BitVec 32 := 1#32
  let v196 : BitVec 32 := Scalar.muli v8 c1_i32_134
  let v197 : BitVec 32 := Scalar.addi v195 v196
  v197.toNat
def k0_dev14 (d0 : Dev nD) : Nat :=
  let c0_i32_153 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_152 : BitVec 32 := 8#32
  let v222 : BitVec 32 := Scalar.muli v2 c8_i32_152
  let v223 : BitVec 32 := Scalar.addi c0_i32_153 v222
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_154 : BitVec 32 := 4#32
  let v224 : BitVec 32 := Scalar.muli v10 c4_i32_154
  let v225 : BitVec 32 := Scalar.addi v223 v224
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_155 : BitVec 32 := 1#32
  let v226 : BitVec 32 := Scalar.muli v8 c1_i32_155
  let v227 : BitVec 32 := Scalar.addi v225 v226
  v227.toNat
def k0_off10 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c256_i32 : BitVec 32 := 256#32
  let v11 : BitVec 32 := Scalar.muli v5 c256_i32
  let c128_i32_167 : BitVec 32 := 128#32
  let v244 : BitVec 32 := Scalar.addi v11 c128_i32_167
  let v245 : Index := Scalar.indexCast v244
  let c0_168 : Index := 0#32
  ![v245.toNat, 0]
def k0_dev15 (d0 : Dev nD) : Nat :=
  let c0_i32_174 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_173 : BitVec 32 := 8#32
  let v252 : BitVec 32 := Scalar.muli v2 c8_i32_173
  let v253 : BitVec 32 := Scalar.addi c0_i32_174 v252
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_175 : BitVec 32 := 4#32
  let v254 : BitVec 32 := Scalar.muli v10 c4_i32_175
  let v255 : BitVec 32 := Scalar.addi v253 v254
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_176 : BitVec 32 := 1#32
  let v256 : BitVec 32 := Scalar.muli v8 c1_i32_176
  let v257 : BitVec 32 := Scalar.addi v255 v256
  v257.toNat
def k0_off11 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c256_i32 : BitVec 32 := 256#32
  let v11 : BitVec 32 := Scalar.muli v5 c256_i32
  let c160_i32_188 : BitVec 32 := 160#32
  let v274 : BitVec 32 := Scalar.addi v11 c160_i32_188
  let v275 : Index := Scalar.indexCast v274
  let c0_189 : Index := 0#32
  ![v275.toNat, 0]
def k0_dev16 (d0 : Dev nD) : Nat :=
  let c0_i32_195 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_194 : BitVec 32 := 8#32
  let v282 : BitVec 32 := Scalar.muli v2 c8_i32_194
  let v283 : BitVec 32 := Scalar.addi c0_i32_195 v282
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_196 : BitVec 32 := 4#32
  let v284 : BitVec 32 := Scalar.muli v10 c4_i32_196
  let v285 : BitVec 32 := Scalar.addi v283 v284
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_197 : BitVec 32 := 1#32
  let v286 : BitVec 32 := Scalar.muli v8 c1_i32_197
  let v287 : BitVec 32 := Scalar.addi v285 v286
  v287.toNat
def k0_off12 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c256_i32 : BitVec 32 := 256#32
  let v11 : BitVec 32 := Scalar.muli v5 c256_i32
  let c184_i32_209 : BitVec 32 := 184#32
  let v304 : BitVec 32 := Scalar.addi v11 c184_i32_209
  let v305 : Index := Scalar.indexCast v304
  let c0_210 : Index := 0#32
  ![v305.toNat, 0]
def k0_dev17 (d0 : Dev nD) : Nat :=
  let c0_i32_216 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_215 : BitVec 32 := 8#32
  let v312 : BitVec 32 := Scalar.muli v2 c8_i32_215
  let v313 : BitVec 32 := Scalar.addi c0_i32_216 v312
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_217 : BitVec 32 := 4#32
  let v314 : BitVec 32 := Scalar.muli v10 c4_i32_217
  let v315 : BitVec 32 := Scalar.addi v313 v314
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_218 : BitVec 32 := 1#32
  let v316 : BitVec 32 := Scalar.muli v8 c1_i32_218
  let v317 : BitVec 32 := Scalar.addi v315 v316
  v317.toNat
def k0_off13 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c256_i32 : BitVec 32 := 256#32
  let v11 : BitVec 32 := Scalar.muli v5 c256_i32
  let c200_i32_230 : BitVec 32 := 200#32
  let v334 : BitVec 32 := Scalar.addi v11 c200_i32_230
  let v335 : Index := Scalar.indexCast v334
  let c0_231 : Index := 0#32
  ![v335.toNat, 0]
def k0_dev18 (d0 : Dev nD) : Nat :=
  let c0_i32_237 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_236 : BitVec 32 := 8#32
  let v342 : BitVec 32 := Scalar.muli v2 c8_i32_236
  let v343 : BitVec 32 := Scalar.addi c0_i32_237 v342
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_238 : BitVec 32 := 4#32
  let v344 : BitVec 32 := Scalar.muli v10 c4_i32_238
  let v345 : BitVec 32 := Scalar.addi v343 v344
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_239 : BitVec 32 := 1#32
  let v346 : BitVec 32 := Scalar.muli v8 c1_i32_239
  let v347 : BitVec 32 := Scalar.addi v345 v346
  v347.toNat
def k0_off14 (d0 : Dev nD) : Fin 2 → Nat :=
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_4 v5
  let c256_i32_5 : BitVec 32 := 256#32
  let v13 : BitVec 32 := Scalar.muli v12 c256_i32_5
  let c208_i32_264 : BitVec 32 := 208#32
  let v382 : BitVec 32 := Scalar.addi v13 c208_i32_264
  let v383 : Index := Scalar.indexCast v382
  let c0_265 : Index := 0#32
  ![v383.toNat, 0]
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024x512 : Shape := ⟨2, ![1024, 512]⟩
abbrev S2x512x512 : Shape := ⟨3, ![2, 512, 512]⟩
abbrev S_ : Shape := ⟨0, ![]⟩
abbrev S512x512 : Shape := ⟨2, ![512, 512]⟩

abbrev nBuf : Space → Nat
  | .hbm => 4
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S2x512x512, .f32⟩
  | .hbm, ⟨2, _⟩ => ⟨S_, .f32⟩
  | .hbm, ⟨3, _⟩ => ⟨S512x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Geometry.lean ====
/-
The geometry of the exchange: who a device's two partners are, which rows each chunk covers, and what
the three buffers of a device hold in the end.

A device sits at `(x, y, z)` of a `2 × 2 × 4` mesh. It sends nine chunks of rows of its block to the
partner across `x`, adds what it receives to its own block, and hands the first seven sums on to the
partner across `y`. Everything here is about rows, offsets and element sets only.
-/
module

public import proofs.«01_k».proof.Proof.Gen.KernelIdeal
public import Idealize.ShloMosaic.Lib.Pipeline.Launch
public import Idealize.ShloMosaic.Lib.Pipeline.Kit
public import Idealize.ShloMosaic.Lib.Pipeline.ValueKit.Geometry
public import Idealize.ShloMosaic.Lib.Tactic

@[expose] public section

noncomputable section

namespace Cert.Exchange

open Cert.KernelIdeal Cert.KernelIdeal.Gen
open Idealize.ShloMosaic
open Idealize.ShloMosaic.TcCoe

/-! ## Partners -/

set_option backward.proofsInPublic true in
/-- The partner across `x`. -/
def xp (c : Dev nD) : Dev nD := ⟨(c.val + 8) % 16, Nat.mod_lt _ (by decide)⟩
set_option backward.proofsInPublic true in
/-- The partner across `y`. -/
def yp (c : Dev nD) : Dev nD := ⟨8 * (c.val / 8) + (c.val + 4) % 8, by have h : c.val < 16 := c.isLt; show _ < 16; omega⟩
set_option backward.proofsInPublic true in
/-- The coordinate along `y`. -/
def yb (c : Dev nD) : Fin 2 := ⟨(c.val / 4) % 2, Nat.mod_lt _ (by decide)⟩

theorem xp_xp (c : Dev nD) : xp (xp c) = c := by revert c; decide
theorem yp_yp (c : Dev nD) : yp (yp c) = c := by revert c; decide
theorem yb_xp (c : Dev nD) : yb (xp c) = yb c := by revert c; decide
theorem yb_yp (c : Dev nD) : (yb (yp c)).val = 1 - (yb c).val := by revert c; decide
theorem xp_yp (c : Dev nD) : xp (yp c) = yp (xp c) := by revert c; decide
theorem xp_val (c : Dev nD) : (4 * ((c.val / 4) % 2) + (c.val % 4) + 8) - 8 * (c.val / 8) = (xp c).val := by
  revert c; decide
theorem yp_val (c : Dev nD) : (8 * (c.val / 8) + (c.val % 4) + 4) - 4 * ((c.val / 4) % 2) = (yp c).val := by
  revert c; decide

/-- The two partner maps as permutations of the mesh. -/
def xperm : Dev nD ≃ Dev nD := ⟨xp, xp, xp_xp, xp_xp⟩
def yperm : Dev nD ≃ Dev nD := ⟨yp, yp, yp_yp, yp_yp⟩

/-! ## Chunks -/

/-- How many rows chunk `i` has, and where it lands in the partner's landing buffer. -/
def xlen : Fin 9 → ℕ := ![48, 40, 40, 32, 24, 16, 8, 48, 48]
def xoff : Fin 9 → ℕ := ![0, 48, 88, 128, 160, 184, 200, 208, 256]
/-- The first row of chunk `i` in the block of a device at coordinate `y`. -/
def srcRow (y : Fin 2) (i : Fin 9) : ℕ := if i = 8 then 464 - 256 * y.val else 256 * y.val + xoff i

/-- The seven chunks handed on across `y` are the first seven. -/
abbrev up (j : Fin 7) : Fin 9 := j.castLE (by decide)

theorem xlen_pos (i : Fin 9) : 0 < xlen i := by revert i; decide
theorem xland_le (i : Fin 9) : xoff i + xlen i ≤ 304 := by revert i; decide
theorem srcRow_le (y : Fin 2) (i : Fin 9) : srcRow y i + xlen i ≤ 512 := by revert y i; decide
theorem up_ne_last (j : Fin 7) : up j ≠ 8 := by revert j; decide

/-- A row of the other half that the partner across `y` sums and hands over. -/
def Given (y : Fin 2) (r : ℕ) : Prop := r / 256 ≠ y.val ∧ r % 256 < 208
instance (y : Fin 2) (r : ℕ) : Decidable (Given y r) := by unfold Given; infer_instance

theorem srcRow_up (y : Fin 2) (j : Fin 7) : srcRow y (up j) = 256 * y.val + (![0, 48, 88, 128, 160, 184, 200] : Fin 7 → ℕ) j := by
  revert y j; decide
theorem xlen_up (j : Fin 7) : xlen (up j) = (![48, 40, 40, 32, 24, 16, 8] : Fin 7 → ℕ) j := by revert j; decide

theorem not_given_src (y : Fin 2) (i : Fin 9) (k : ℕ) (hk : k < xlen i) : ¬ Given y (srcRow y i + k) := by
  unfold Given
  fin_cases y <;> fin_cases i <;> simp [srcRow, xlen, xoff] at hk ⊢ <;> omega
theorem given_other (y y' : Fin 2) (h : y'.val = 1 - y.val) (j : Fin 7) (k : ℕ) (hk : k < xlen (up j)) :
    Given y (srcRow y' (up j) + k) := by
  have h8 : (![0, 48, 88, 128, 160, 184, 200] : Fin 7 → ℕ) j + xlen (up j) ≤ 208 := by clear hk; revert j; decide
  have hy := y.isLt
  rw [srcRow_up]
  unfold Given
  omega

/-- The row of the partner's block that lands in row `r` of the landing buffer. -/
def landRow (y : Fin 2) (r : ℕ) : ℕ := if r < 256 then 256 * y.val + r else 464 - 256 * y.val + (r - 256)

theorem landRow_chunk (y : Fin 2) (i : Fin 9) (k : ℕ) (hk : k < xlen i) : landRow y (xoff i + k) = srcRow y i + k := by
  unfold landRow
  fin_cases y <;> fin_cases i <;> simp [srcRow, xlen, xoff] at hk ⊢ <;> first | omega | (split <;> omega)

/-! ## Element sets: the rows `[lo, lo + n)` of an array of 512 columns -/

def rows (N lo n : ℕ) : Finset (⟨2, ![N, 512]⟩ : Shape).Idx :=
  Finset.univ.filter fun i => lo ≤ (i 0).val ∧ (i 0).val < lo + n

theorem mem_rows {N lo n : ℕ} {i : (⟨2, ![N, 512]⟩ : Shape).Idx} : i ∈ rows N lo n ↔ lo ≤ (i 0).val ∧ (i 0).val < lo + n := by
  simp [rows]

theorem rows_disjoint {N lo n lo' n' : ℕ} (h : lo + n ≤ lo' ∨ lo' + n' ≤ lo) : Disjoint (rows N lo n) (rows N lo' n') := by
  rw [Finset.disjoint_left]; intro i hi hi'; rw [mem_rows] at hi hi'; omega

/-- A unit-stride rectangle of whole rows has those rows as its elements. -/
theorem rect_rows (N lo n : ℕ) (inb : ∀ a, (![lo, 0] : Fin 2 → ℕ) a + (![n, 512] : Fin 2 → ℕ) a ≤ (⟨2, ![N, 512]⟩ : Shape).size a) :
    (Rect.unit (s := ⟨2, ![N, 512]⟩) ![lo, 0] ![n, 512] inb).set = rows N lo n := by
  ext i
  rw [Rect.mem_set_unit, mem_rows, Fin.forall_fin_two]
  have h1 : (i 1 : ℕ) < 512 := (i 1).isLt
  constructor
  · rintro ⟨h, -⟩; exact h
  · exact fun h => ⟨h, Nat.zero_le _, by show (i 1 : ℕ) < 0 + 512; omega⟩

/-- The nine chunks of a device's own block, and the seven it is given. -/
theorem src_disjoint (y : Fin 2) (i j : Fin 9) (h : i ≠ j) :
    Disjoint (rows 512 (srcRow y i) (xlen i)) (rows 512 (srcRow y j) (xlen j)) :=
  rows_disjoint (by revert y i j; decide)
theorem given_disjoint (y : Fin 2) (i j : Fin 7) (h : i ≠ j) :
    Disjoint (rows 512 (srcRow y (up i)) (xlen (up i))) (rows 512 (srcRow y (up j)) (xlen (up j))) :=
  src_disjoint y (up i) (up j) fun e => h (Fin.castLE_injective _ e)
theorem land_disjoint (i j : Fin 9) (h : i ≠ j) : Disjoint (rows 304 (xoff i) (xlen i)) (rows 304 (xoff j) (xlen j)) :=
  rows_disjoint (by revert i j; decide)
theorem cross_disjoint (y y' : Fin 2) (h : y'.val = 1 - y.val) (i : Fin 9) (j : Fin 7) :
    Disjoint (rows 512 (srcRow y i) (xlen i)) (rows 512 (srcRow y' (up j)) (xlen (up j))) :=
  rows_disjoint (by revert y y' i j; decide)

theorem land_cover : (Finset.univ.biUnion fun i : Fin 9 => rows 304 (xoff i) (xlen i)) = Finset.univ := by
  ext e
  simp only [Finset.mem_biUnion, Finset.mem_univ, true_and, iff_true, mem_rows]
  have hr : (e 0 : ℕ) < 304 := (e 0).isLt
  by_contra hn
  have h (i : Fin 9) : ¬ (xoff i ≤ (e 0).val ∧ (e 0).val < xoff i + xlen i) := fun h' => hn ⟨i, h'⟩
  have h0 := h 0; have h1 := h 1; have h2 := h 2; have h3 := h 3; have h4 := h 4
  have h5 := h 5; have h6 := h 6; have h7 := h 7; have h8 := h 8
  simp [xoff, xlen] at h0 h1 h2 h3 h4 h5 h6 h7 h8
  omega

/-- The rows a device sums itself and the rows it is given make up the result. -/
theorem out_cover (y y' : Fin 2) (h : y'.val = 1 - y.val) :
    ((Finset.univ.biUnion fun i : Fin 9 => rows 512 (srcRow y i) (xlen i))
      ∪ Finset.univ.biUnion fun j : Fin 7 => rows 512 (srcRow y' (up j)) (xlen (up j))) = Finset.univ := by
  ext e
  simp only [Finset.mem_union, Finset.mem_biUnion, Finset.mem_univ, true_and, iff_true, mem_rows]
  have hr : (e 0 : ℕ) < 512 := (e 0).isLt
  by_contra hn
  rw [not_or] at hn
  have h (i : Fin 9) : ¬ (srcRow y i ≤ (e 0).val ∧ (e 0).val < srcRow y i + xlen i) := fun h' => hn.1 ⟨i, h'⟩
  have g (j : Fin 7) : ¬ (srcRow y' (up j) ≤ (e 0).val ∧ (e 0).val < srcRow y' (up j) + xlen (up j)) := fun h' => hn.2 ⟨j, h'⟩
  have h0 := h 0; have h1 := h 1; have h2 := h 2; have h3 := h 3; have h4 := h 4
  have h5 := h 5; have h6 := h 6; have h7 := h 7; have h8 := h 8
  have g0 := g 0; have g1 := g 1; have g2 := g 2; have g3 := g 3; have g4 := g 4; have g5 := g 5; have g6 := g 6
  simp only [srcRow_up, xlen_up] at g0 g1 g2 g3 g4 g5 g6
  simp [srcRow, xoff, xlen] at h0 h1 h2 h3 h4 h5 h6 h7 h8 g0 g1 g2 g3 g4 g5 g6
  have := y.isLt
  omega

/-! ## Buffers -/

abbrev xM : Memref sig .tc .vmem S512x512 .f32 := Memref.whole cc0_stg0_0
abbrev oM : Memref sig .tc .vmem S512x512 .f32 := Memref.whole cc0_stg1_0
abbrev rM : Memref sig .tc .vmem S304x512 .f32 := Memref.whole cc0_scratch0

abbrev xLoc (c : Dev nD) : Loc nD τ sig := (c : Thread nD τ).loc cc0_stg0_0
abbrev oLoc (c : Dev nD) : Loc nD τ sig := (c : Thread nD τ).loc cc0_stg1_0
abbrev rLoc (c : Dev nD) : Loc nD τ sig := (c : Thread nD τ).loc cc0_scratch0

section Views
variable {lo n : ℕ} {off : Fin 2 → ℕ}

/-- The rows of a device's block, result and landing buffer that a chunk's view covers. -/
theorem set_x (h : off = ![lo, 0]) (inb : ∀ a, off a + (![n, 512] : Fin 2 → ℕ) a ≤ S512x512.size a) :
    (xM.access (Rect.unit (s := S512x512) off ![n, 512] inb)).set = rows 512 lo n := by
  subst h; exact (View.set_slice_whole cc0_stg0_0 _).trans (rect_rows 512 lo n inb)
theorem set_o (h : off = ![lo, 0]) (inb : ∀ a, off a + (![n, 512] : Fin 2 → ℕ) a ≤ S512x512.size a) :
    (oM.access (Rect.unit (s := S512x512) off ![n, 512] inb)).set = rows 512 lo n := by
  subst h; exact (View.set_slice_whole cc0_stg1_0 _).trans (rect_rows 512 lo n inb)
theorem set_r (h : off = ![lo, 0]) (inb : ∀ a, off a + (![n, 512] : Fin 2 → ℕ) a ≤ S304x512.size a) :
    (rM.access (Rect.unit (s := S304x512) off ![n, 512] inb)).set = rows 304 lo n := by
  subst h; exact (View.set_slice_whole cc0_scratch0 _).trans (rect_rows 304 lo n inb)

end Views

/-! ## Contents -/

section Contents
variable {F : FTy → Type} [FloatOps F]

/-- The element of a `512 × 512` block at row `r`, column `k`. -/
def at2 (r : ℕ) (k : Fin 512) : S512x512.Idx := fun | 0 => Fin.ofNat 512 r | 1 => k

theorem at2_self (i : S512x512.Idx) : at2 (i 0).val (i 1) = i := by
  funext a
  fin_cases a
  · exact Fin.ext (Nat.mod_eq_of_lt (i 0).isLt)
  · rfl

/-- The landing buffer after the nine chunks from the partner, whose block is `u`, arrived. -/
def landing (y : Fin 2) (u : S512x512.Idx → F .f32) : S304x512.Idx → F .f32 := fun j => u (at2 (landRow y (j 0).val) (j 1))

/-- The result: at a given row the sum of the partner-across-`y`'s two blocks `p`, `q`, elsewhere of the
    device's own `v` and its partner-across-`x`'s `u`. -/
def result (y : Fin 2) (v u p q : S512x512.Idx → F .f32) : S512x512.Idx → F .f32 := fun i =>
  if Given y (i 0).val then FloatOps.addf (p i) (q i) else FloatOps.addf (v i) (u i)

end Contents

end Cert.Exchange

end
-- ==== Proof.Protocol.lean ====
/-
The protocol of the exchange, under the rounds library.

Every device has one barrier cell and 32 transfer cells. The barrier cell is paid one unit by each
partner; the partner across `x` hands over its landing buffer with its unit, the partner across `y`
the rows of its result that it does not sum itself. A transfer cell has one duty, paid by one
transfer: the send cells hand back the rows sent, the receive cells the rows that arrived.
-/
module

public import proofs.«01_k».proof.Proof.Geometry
public import proofs.«01_k».proof.Proof.Gen.KernelIdeal.Skeleton
public import proofs.«01_k».proof.Proof.Gen.KernelIdeal.Launch

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## Ports: a device's semaphores -/

/-- The barrier, and per chunk the send and receive semaphores across `x`, then across `y`. -/
abbrev DPort : Type := Fin 9 ⊕ Fin 9 ⊕ Fin 7 ⊕ Fin 7
abbrev Port : Type := Unit ⊕ DPort

abbrev bar : Port := .inl ()
abbrev xs (i : Fin 9) : Port := .inr (.inl i)
abbrev xr (i : Fin 9) : Port := .inr (.inr (.inl i))
abbrev ys (j : Fin 7) : Port := .inr (.inr (.inr (.inl j)))
abbrev yr (j : Fin 7) : Port := .inr (.inr (.inr (.inr j)))

abbrev barS : Sem sig := barrier0

def dsem : DPort → DmaSem sig
  | .inl i => ⟨2 + i.val, by show _ < 34; omega⟩
  | .inr (.inl i) => ⟨11 + i.val, by show _ < 34; omega⟩
  | .inr (.inr (.inl j)) => ⟨20 + j.val, by show _ < 34; omega⟩
  | .inr (.inr (.inr j)) => ⟨27 + j.val, by show _ < 34; omega⟩

abbrev csem : Port → SemLoc sig
  | .inl _ => .reg barS
  | .inr p => .dma (dsem p)

/-- The port a semaphore is, if one. -/
def portOf : SemLoc sig → Option Port
  | .reg _ => some bar
  | .dma q =>
    if h2 : q.val < 2 then none
    else if h : q.val < 11 then some (xs ⟨q.val - 2, by omega⟩)
    else if h' : q.val < 20 then some (xr ⟨q.val - 11, by omega⟩)
    else if h'' : q.val < 27 then some (ys ⟨q.val - 20, by omega⟩)
    else some (yr ⟨q.val - 27, by have h34 : q.val < 34 := q.isLt; omega⟩)

theorem portOf_csem (p : Port) : portOf (csem p) = some p := by revert p; decide
theorem csem_injective : Function.Injective csem := fun p q h =>
  Option.some.inj ((portOf_csem p).symm.trans ((congrArg portOf h).trans (portOf_csem q)))

abbrev cell (c : Dev nD) (p : Port) : GSem nD τ sig := ((c : Thread nD τ), csem p)
abbrev kcell (cp : Dev nD × Port) : GSem nD τ sig := cell cp.1 cp.2

theorem kcell_injective : Function.Injective kcell := by
  rintro ⟨c, p⟩ ⟨c', p'⟩ h
  have h1 : c = c' := congrArg (fun g : GSem nD τ sig => g.1.1) h
  have h2 : p = p' := csem_injective (congrArg Prod.snd h)
  rw [h1, h2]
theorem cell_eq_iff {c c' : Dev nD} {p p' : Port} : Iff (cell c p = cell c' p') (c = c' ∧ p = p') :=
  ⟨fun h => Prod.mk.inj (kcell_injective (a₁ := (c, p)) (a₂ := (c', p')) h), fun h => by rw [h.1, h.2]⟩

/-- What a transfer of `n` rows credits. -/
def amt (n : ℕ) : ℕ := RefSig.tileCredit ⟨2, ![n, 512]⟩ .f32
/-- The credit of a port's one duty (each of the two, for the barrier). -/
def units : Port → ℕ
  | .inl _ => 1
  | .inr (.inl i) => amt (xlen i)
  | .inr (.inr (.inl i)) => amt (xlen i)
  | .inr (.inr (.inr (.inl j))) => amt (xlen (up j))
  | .inr (.inr (.inr (.inr j))) => amt (xlen (up j))
theorem amt_pos (n : ℕ) (h : 0 < n) : 0 < amt n := RefSig.tileCredit_pos _ _ (by
  show 0 < ∏ a : Fin 2, (![n, 512] : Fin 2 → ℕ) a
  rw [Fin.prod_univ_two]; exact Nat.mul_pos h (show 0 < 512 by decide))
theorem units_pos (p : Port) : 0 < units p := by
  rcases p with _ | i | i | j | j
  · exact Nat.one_pos
  · exact amt_pos _ (xlen_pos i)
  · exact amt_pos _ (xlen_pos i)
  · exact amt_pos _ (xlen_pos (up j))
  · exact amt_pos _ (xlen_pos (up j))

/-! ## Contents and pieces -/

/-- The block a device starts from, as staged for its body. -/
def X (c : Dev nD) : Buf (Elt F) (xLoc c) :=
  (win0_0.blk (0 : Fin 1)).view.read (Elt F) ((s₀ m ρ).mem ((c : Thread nD τ).loc main_arg0))
/-- The landing buffer once everything arrived. -/
def landed (c : Dev nD) : Buf (Elt F) (rLoc c) := landing (F := F) (yb c) (X m ρ (xp c))
/-- The result. -/
def outAt (c : Dev nD) : Buf (Elt F) (oLoc c) := result (yb c) (X m ρ c) (X m ρ (xp c)) (X m ρ (yp c)) (X m ρ (xp (yp c)))

/-- The rows of chunk `i` of a block, as a set. -/
abbrev srcSet (y : Fin 2) (i : Fin 9) : Finset (⟨2, ![512, 512]⟩ : Shape).Idx := rows 512 (srcRow y i) (xlen i)
abbrev landSet (i : Fin 9) : Finset (⟨2, ![304, 512]⟩ : Shape).Idx := rows 304 (xoff i) (xlen i)

def xPc (c : Dev nD) (i : Fin 9) (q : PosShare TreeShare) : sProp 𝕄 := xLoc c ↦[srcSet (yb c) i]{q} X m ρ c
def landAny (c : Dev nD) (i : Fin 9) : sProp 𝕄 := iprop(∃ f : Buf (Elt F) (rLoc c), rLoc c ↦[landSet i]{fullShare} f)
def landPc (c : Dev nD) (i : Fin 9) : sProp 𝕄 := rLoc c ↦[landSet i]{fullShare} landed m ρ c
def outAny (c : Dev nD) (y : Fin 2) (i : Fin 9) : sProp 𝕄 := iprop(∃ f : Buf (Elt F) (oLoc c), oLoc c ↦[srcSet y i]{fullShare} f)
def outPc (c : Dev nD) (y : Fin 2) (i : Fin 9) : sProp 𝕄 := oLoc c ↦[srcSet y i]{fullShare} outAt m ρ c

omit [FloatOps F] in
instance xPc_storable (c : Dev nD) (i q) : BI.Storable (upEmb : UEmb _ 𝕄) (xPc m ρ c i q) := by unfold xPc; infer_instance
omit [FloatOps F] in
instance landAny_storable (c : Dev nD) (i) : BI.Storable (upEmb : UEmb _ 𝕄) (landAny (F := F) c i) := by unfold landAny; infer_instance
omit [FloatOps F] in
instance landPc_storable (c : Dev nD) (i) : BI.Storable (upEmb : UEmb _ 𝕄) (landPc m ρ c i) := by unfold landPc; infer_instance
omit [FloatOps F] in
instance outAny_storable (c : Dev nD) (y i) : BI.Storable (upEmb : UEmb _ 𝕄) (outAny (F := F) c y i) := by unfold outAny; infer_instance
instance outPc_storable (c : Dev nD) (y i) : BI.Storable (upEmb : UEmb _ 𝕄) (outPc m ρ c y i) := by unfold outPc; infer_instance

/-! ## The schedule: one round -/

/-- What paying duty `d` of port `p` of device `c` hands to `c`. -/
def pay (c : Dev nD) (d : Bool) : Port → sProp 𝕄
  | .inl _ => if d then bigSep Finset.univ fun j : Fin 7 => outAny (yp c) (yb c) (up j) else bigSep Finset.univ fun i : Fin 9 => landAny (xp c) i
  | .inr (.inl i) => xPc m ρ c i fullShare.left
  | .inr (.inr (.inl i)) => landPc m ρ c i
  | .inr (.inr (.inr (.inl j))) => outPc m ρ c (yb c) (up j)
  | .inr (.inr (.inr (.inr j))) => outPc m ρ c (yb (yp c)) (up j)

instance pay_storable (c : Dev nD) (d : Bool) (p : Port) : BI.Storable (upEmb : UEmb _ 𝕄) (pay m ρ c d p) := by
  rcases p with _ | i | i | j | j
  · cases d
    · exact (inferInstance : BI.Storable upEmb (bigSep Finset.univ fun i : Fin 9 => landAny (F := F) (xp c) i))
    · exact (inferInstance : BI.Storable upEmb (bigSep Finset.univ fun j : Fin 7 => outAny (F := F) (yp c) (yb c) (up j)))
  · exact xPc_storable m ρ c i _
  · exact landPc_storable m ρ c i
  · exact outPc_storable m ρ c _ _
  · exact outPc_storable m ρ c _ _

def dutiesOf : Port → Finset Bool
  | .inl _ => Finset.univ
  | .inr _ => {false}

def Rd : Rounds.Schedule (GSem nD τ sig) Bool 𝕄 where
  duties g r := if r = 0 ∧ g.1.2 = .tc then (portOf g.2).elim ∅ dutiesOf else ∅
  unitless _ := False
  amount g _ _ := (portOf g.2).elim 1 units
  payload g _ d := (portOf g.2).elim iprop(emp) (pay m ρ g.1.1 d)
  amount_pos g _ _ _ := by
    cases h : portOf g.2 with
    | none => exact Nat.one_pos
    | some p => exact units_pos p

instance Rd_payload_storable (g : GSem nD τ sig) (r : ℕ) (d : Bool) : BI.Storable (upEmb : UEmb _ 𝕄) ((Rd m ρ).payload g r d) := by
  show BI.Storable upEmb ((portOf g.2).elim iprop(emp) (pay m ρ g.1.1 d))
  cases portOf g.2 with
  | none => exact (inferInstance : BI.Storable (upEmb : UEmb _ 𝕄) iprop(emp))
  | some p => exact pay_storable m ρ g.1.1 d p

theorem Rd_duties (c : Dev nD) (p : Port) : (Rd m ρ).duties (cell c p) 0 = dutiesOf p := by
  dsimp only [Rd]; rw [if_pos ⟨rfl, rfl⟩, portOf_csem]; rfl
theorem Rd_later (g : GSem nD τ sig) : ∀ r, 1 ≤ r → (Rd m ρ).duties g r = ∅ :=
  fun r hr => by dsimp only [Rd]; rw [if_neg fun h => by omega]
theorem Rd_amount (c : Dev nD) (p : Port) (d : Bool) : (Rd m ρ).amount (cell c p) 0 d = units p := by
  dsimp only [Rd]; rw [portOf_csem]; rfl
theorem Rd_payload (c : Dev nD) (p : Port) (d : Bool) : (Rd m ρ).payload (cell c p) 0 d = pay m ρ c d p := by
  dsimp only [Rd]; rw [portOf_csem]; rfl
theorem Rd_expect_bar (c : Dev nD) : (Rd m ρ).expect (cell c bar) 0 = 2 := by
  unfold Schedule.expect Schedule.amountOf
  rw [Rd_duties, Finset.sum_congr rfl fun d _ => Rd_amount m ρ c bar d]; rfl
theorem Rd_expect (c : Dev nD) (p : DPort) : (Rd m ρ).expect (cell c (.inr p)) 0 = units (.inr p) := by
  unfold Schedule.expect Schedule.amountOf
  rw [Rd_duties, Finset.sum_congr rfl fun d _ => Rd_amount m ρ c _ d]; exact Finset.sum_singleton _ _

/-- All a barrier's round hands over: the partners' buffers. -/
theorem Rd_rest_bar (c : Dev nD) : bigSep ((Rd m ρ).duties (cell c bar) 0 \ ∅) (fun d => (Rd m ρ).payload (cell c bar) 0 d)
    = iprop((bigSep Finset.univ fun i : Fin 9 => landAny (xp c) i) ∗ bigSep Finset.univ fun j : Fin 7 => outAny (yp c) (yb c) (up j)) := by
  rw [Finset.sdiff_empty, Rd_duties, show dutiesOf bar = Finset.univ from rfl,
    bigSep_univ_eq_bigSepL [false, true] (by decide) (by decide), bigSepL_cons_cons, bigSepL_singleton, Rd_payload, Rd_payload]
  rfl
theorem Rd_rest (c : Dev nD) (p : DPort) : bigSep ((Rd m ρ).duties (cell c (.inr p)) 0 \ ∅) (fun d => (Rd m ρ).payload (cell c (.inr p)) 0 d)
    = pay m ρ c false (.inr p) := by
  rw [Finset.sdiff_empty, Rd_duties, show dutiesOf (.inr p) = {false} from rfl, bigSep_singleton, Rd_payload]

/-! ## Debts and levels -/

abbrev Tallies : Type := CellTallies nD τ sig Unit

/-- What device `c` still owes once it has sent `kx` chunks across `x` and `ky` across `y`. -/
def owed (c : Dev nD) (kx ky : ℕ) : Tallies :=
  (∑ i : Fin 9 with kx ≤ i.val, tallyAt (cell (xp c) (xr i)) () (units (xr i)))
    + ∑ j : Fin 7 with ky ≤ j.val, tallyAt (cell (yp c) (yr j)) () (units (yr j))
def O₁ (c : Dev nD) : Tallies := owed c 0 0 + tallyAt (cell (yp c) bar) () 1
def O₀ (c : Dev nD) : Tallies := O₁ c + tallyAt (cell (xp c) bar) () 1

theorem sum_peel {n : ℕ} (f : Fin n → Tallies) (i : Fin n) :
    (∑ t : Fin n with i.val ≤ t.val, f t) = (∑ t : Fin n with i.val + 1 ≤ t.val, f t) + f i := by
  have h : (Finset.univ.filter fun t : Fin n => i.val ≤ t.val) = insert i (Finset.univ.filter fun t : Fin n => i.val + 1 ≤ t.val) := by
    ext t
    simp only [Finset.mem_filter, Finset.mem_univ, true_and, Finset.mem_insert, Fin.ext_iff]
    omega
  rw [h, Finset.sum_insert (by simp), add_comm]

theorem owed_x (c : Dev nD) (i : Fin 9) (ky : ℕ) :
    owed c i.val ky = owed c (i.val + 1) ky + tallyAt (cell (xp c) (xr i)) () (units (xr i)) := by
  unfold owed; rw [sum_peel]; exact add_right_comm _ _ _
theorem owed_y (c : Dev nD) (kx : ℕ) (j : Fin 7) :
    owed c kx j.val = owed c kx (j.val + 1) + tallyAt (cell (yp c) (yr j)) () (units (yr j)) := by
  unfold owed; rw [sum_peel (n := 7)]; exact (add_assoc _ _ _).symm
theorem owed_none (c : Dev nD) : owed c 9 7 = 0 := by
  unfold owed
  rw [Finset.filter_eq_empty_iff.mpr fun i _ => by omega, Finset.filter_eq_empty_iff.mpr fun i _ => by omega]
  simp

theorem sum_pos {n : ℕ} {S : Finset (Fin n)} {f : Fin n → Tallies} {g : GSem nD τ sig} {u : Unit}
    (h : 0 < (∑ t ∈ S, f t) g u) : ∃ t ∈ S, 0 < f t g u := by
  rw [Finset.sum_apply, Finsupp.finset_sum_apply] at h
  by_contra hn
  push Not at hn
  exact absurd (Finset.sum_eq_zero fun t ht => Nat.le_zero.mp (hn t ht)) h.ne'

theorem tally_pos {g g' : GSem nD τ sig} {u : Unit} {k : ℕ} (h : 0 < tallyAt g' () k g u) : g = g' := by
  rw [tallyAt_apply] at h
  by_contra hn
  rw [if_neg fun e => hn e.1] at h
  exact Nat.lt_irrefl 0 h

theorem owed_pos {c : Dev nD} {kx ky : ℕ} {g : GSem nD τ sig} {u : Unit} (h : 0 < owed c kx ky g u) :
    (∃ i : Fin 9, kx ≤ i.val ∧ g = cell (xp c) (xr i)) ∨ ∃ j : Fin 7, ky ≤ j.val ∧ g = cell (yp c) (yr j) := by
  unfold owed at h
  rw [Pi.add_apply, Finsupp.add_apply] at h
  rcases Nat.pos_iff_ne_zero.mp h |> fun h' => (Nat.add_pos_iff_pos_or_pos.mp (Nat.pos_of_ne_zero h')) with h | h
  · obtain ⟨i, hi, h⟩ := sum_pos h; exact .inl ⟨i, (Finset.mem_filter.mp hi).2, tally_pos h⟩
  · obtain ⟨i, hi, h⟩ := sum_pos h; exact .inr ⟨i, (Finset.mem_filter.mp hi).2, tally_pos h⟩

theorem O₀_pos {c : Dev nD} {g : GSem nD τ sig} {u : Unit} (h : 0 < O₀ c g u) :
    ∃ (d : Dev nD) (p : Port), g = cell d p ∧ (p = bar ∨ (∃ i, p = xr i) ∨ ∃ j, p = yr j) := by
  unfold O₀ O₁ at h
  rw [Pi.add_apply, Finsupp.add_apply, Pi.add_apply, Finsupp.add_apply] at h
  rcases Nat.add_pos_iff_pos_or_pos.mp h with h | h
  · rcases Nat.add_pos_iff_pos_or_pos.mp h with h | h
    · rcases owed_pos h with ⟨i, -, e⟩ | ⟨j, -, e⟩
      · exact ⟨_, _, e, .inr (.inl ⟨i, rfl⟩)⟩
      · exact ⟨_, _, e, .inr (.inr ⟨j, rfl⟩)⟩
    · exact ⟨_, _, tally_pos h, .inl rfl⟩
  · exact ⟨_, _, tally_pos h, .inl rfl⟩

def L (g : GSem nD τ sig) : Finset Unit := if g.1.2 = .tc then {()} else ∅
/-- Barrier cells at 1, the receive cells across `x` at 2, across `y` at 3, the rest at 0. -/
def lvP : Port → ℕ
  | .inl _ => 1
  | .inr (.inl _) => 0
  | .inr (.inr (.inl _)) => 2
  | .inr (.inr (.inr (.inl _))) => 0
  | .inr (.inr (.inr (.inr _))) => 3
def lv (g : GSem nD τ sig) (_ : Unit) : ℕ := (portOf g.2).elim 0 lvP

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (p : Port) (u : Unit) : lv (cell c p) u = lvP p := by unfold lv; rw [portOf_csem]; rfl

/-- A device may wait on a semaphore below everything it owes. -/
theorem mayWait (c : Dev nD) (sm : SemLoc sig) (O : Tallies)
    (h : ∀ g u, 0 < O g u → ∃ d p, g = cell d p ∧ lv ((c : Thread nD τ), sm) () < lvP p) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by obtain ⟨d, p, rfl, -⟩ := h g u hg; exact Finset.mem_singleton_self _)
    (fun p hp => by rw [Finset.mem_singleton.mp hp])
    (fun g u hg => by obtain ⟨d, p, rfl, hl⟩ := h g u hg; rw [lv_cell]; exact hl)

theorem mayWait_owed (c : Dev nD) (p : Port) (kx ky : ℕ) (hx : kx < 9 → lvP p < 2) (hy : ky < 7 → lvP p < 3) :
    (levAts L lv : sProp 𝕄) ⊢ MayWait (c : Thread nD τ) (csem p) () (owed c kx ky) := by
  refine mayWait c _ _ fun g u hg => ?_
  rcases owed_pos hg with ⟨i, hi, rfl⟩ | ⟨j, hj, rfl⟩
  · exact ⟨_, _, rfl, by rw [lv_cell c p]; exact hx (by omega)⟩
  · exact ⟨_, _, rfl, by rw [lv_cell c p]; exact hy (by omega)⟩

theorem mayWait_stage (c : Dev nD) (q : DmaSem sig) (hq : q.val < 2) : (levAts L lv : sProp 𝕄) ⊢ MayWait (c : Thread nD τ) (.dma q) () (O₀ c) := by
  refine mayWait c _ _ fun g u hg => ?_
  have h0 : lv ((c : Thread nD τ), .dma q) () = 0 := by unfold lv portOf; dsimp only; rw [dif_pos hq]; rfl
  obtain ⟨d, p, rfl, hp⟩ := O₀_pos hg
  refine ⟨d, p, rfl, ?_⟩
  rw [h0]
  rcases hp with rfl | ⟨i, rfl⟩ | ⟨j, rfl⟩ <;> exact Nat.succ_pos _

/-! ## The cells' records, which every device may read -/

def records (K : Dev nD × Port → ℕ) : sProp 𝕄 :=
  iprop((bigSep Finset.univ fun cp : Dev nD × Port => cellInv ER (Rd m ρ) (K cp) (kcell cp))
    ∗ bigSep Finset.univ fun cp : Dev nD × Port => reached ER (kcell cp) 0)

instance records_persistent (K : Dev nD × Port → ℕ) : BI.Persistent (records m ρ K) := by unfold records; infer_instance

theorem records_inv (K : Dev nD × Port → ℕ) (c : Dev nD) (p : Port) : records m ρ K ⊢ cellInv ER (Rd m ρ) (K (c, p)) (cell c p) := by
  unfold records
  iintro ⟨H, -⟩
  iapply (show (bigSep Finset.univ fun cp : Dev nD × Port => cellInv ER (Rd m ρ) (K cp) (kcell cp)) ⊢ cellInv ER (Rd m ρ) (K (c, p)) (cell c p) from bigSep_elim (Finset.mem_univ (c, p)))
  iexact H
theorem records_reached (K : Dev nD × Port → ℕ) (c : Dev nD) (p : Port) : records m ρ K ⊢ reached ER (cell c p) 0 := by
  unfold records
  iintro ⟨-, H⟩
  iapply (show (bigSep Finset.univ fun cp : Dev nD × Port => (reached ER (kcell cp) 0 : sProp 𝕄)) ⊢ reached ER (cell c p) 0 from bigSep_elim (Finset.mem_univ (c, p)))
  iexact H

end Cert.Exchange

end
-- ==== Proof.Steps.lean ====
/-
The state of a device in the middle of its body, and what each memory operation does to it.

Every chunk of every kind of transfer is an item that moves through stages; the body goes through the
items of a kind in order, so the whole state is told by seven counters. One lemma per kind of operation,
for any chunk: a send or a wait moves its item on, a load leaves the state, a store fills an item in.
-/
module

public import proofs.«01_k».proof.Proof.Protocol

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- A program of device `c`'s core reaches `Q`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## Items moving through stages -/

/-- `n` items, the first `t` of them at stage `C`, those up to `s` at `B`, the rest at `A`. -/
def fam {n : ℕ} (A B C : Fin n → sProp 𝕄) (s t : ℕ) : sProp 𝕄 :=
  bigSep Finset.univ fun i : Fin n => if i.val < t then C i else if i.val < s then B i else A i

theorem bigSep_change {n : ℕ} (i : Fin n) (Φ Ψ : Fin n → sProp 𝕄) (h : ∀ j, j ≠ i → Φ j = Ψ j) :
    bigSep Finset.univ Φ ⊢ iprop(Φ i ∗ (Ψ i -∗ bigSep Finset.univ Ψ)) := by
  rw [bigSep_univ_split (Φ := Φ) i, bigSep_univ_split (Φ := Ψ) i, bigSep_congr fun j hj => h j (Finset.ne_of_mem_erase hj)]
  show iprop(Φ i ∗ bigSep (Finset.univ.erase i) Ψ) ⊢ iprop(Φ i ∗ (Ψ i -∗ Ψ i ∗ bigSep (Finset.univ.erase i) Ψ))
  iintro ⟨H, Hr⟩
  isplitl [H]; · iexact H
  iintro H'
  isplitl [H'] <;> iassumption

section Fam

theorem fam_first {n : ℕ} {A B C : Fin n → sProp 𝕄} (i : Fin n) {t : ℕ} (ht : t ≤ i.val) : fam A B C i.val t ⊢ iprop(A i ∗ (B i -∗ fam A B C (i.val + 1) t)) := by
  have h := bigSep_change i (fun j : Fin n => if j.val < t then C j else if j.val < i.val then B j else A j)
    (fun j : Fin n => if j.val < t then C j else if j.val < i.val + 1 then B j else A j) (fun j hj => by
      have hne : j.val ≠ i.val := fun e => hj (Fin.ext e)
      by_cases h1 : j.val < i.val
      · rw [if_pos h1, if_pos (by omega : j.val < i.val + 1)]
      · rw [if_neg h1, if_neg (by omega : ¬ j.val < i.val + 1)])
  rw [if_neg (by omega : ¬ i.val < t), if_neg (by omega : ¬ i.val < i.val), if_neg (by omega : ¬ i.val < t), if_pos (by omega : i.val < i.val + 1)] at h
  exact h

theorem fam_second {n : ℕ} {A B C : Fin n → sProp 𝕄} (i : Fin n) {s : ℕ} (hs : i.val < s) : fam A B C s i.val ⊢ iprop(B i ∗ (C i -∗ fam A B C s (i.val + 1))) := by
  have h := bigSep_change i (fun j : Fin n => if j.val < i.val then C j else if j.val < s then B j else A j)
    (fun j : Fin n => if j.val < i.val + 1 then C j else if j.val < s then B j else A j) (fun j hj => by
      have hne : j.val ≠ i.val := fun e => hj (Fin.ext e)
      by_cases h1 : j.val < i.val
      · rw [if_pos h1, if_pos (by omega : j.val < i.val + 1)]
      · rw [if_neg h1, if_neg (by omega : ¬ j.val < i.val + 1)])
  rw [if_neg (by omega : ¬ i.val < i.val), if_pos hs, if_pos (by omega : i.val < i.val + 1)] at h
  exact h

/-- An item looked at and put back. -/
theorem fam_borrow {n : ℕ} {A B C : Fin n → sProp 𝕄} (i : Fin n) {s t : ℕ} (ht : t ≤ i.val) (hs : i.val < s) : fam A B C s t ⊢ iprop(B i ∗ (B i -∗ fam A B C s t)) := by
  have h := bigSep_change i (fun j : Fin n => if j.val < t then C j else if j.val < s then B j else A j) _ (fun j _ => rfl)
  rw [if_neg (by omega : ¬ i.val < t), if_pos hs] at h
  exact h
theorem fam_borrow_first {n : ℕ} {A B C : Fin n → sProp 𝕄} (i : Fin n) {s t : ℕ} (ht : t ≤ i.val) (hs : s ≤ i.val) : fam A B C s t ⊢ iprop(A i ∗ (A i -∗ fam A B C s t)) := by
  have h := bigSep_change i (fun j : Fin n => if j.val < t then C j else if j.val < s then B j else A j) _ (fun j _ => rfl)
  rw [if_neg (by omega : ¬ i.val < t), if_neg (by omega : ¬ i.val < s)] at h
  exact h

theorem fam_start {n : ℕ} {A B C : Fin n → sProp 𝕄} : fam A B C 0 0 = bigSep Finset.univ A :=
  bigSep_congr fun i _ => by rw [if_neg (by omega), if_neg (by omega)]
theorem fam_middle {n : ℕ} {A B C : Fin n → sProp 𝕄} (s : ℕ) (h : n ≤ s) : fam A B C s 0 = bigSep Finset.univ B :=
  bigSep_congr fun i _ => by rw [if_neg (by omega), if_pos (by omega)]
theorem fam_end {n : ℕ} {A B C : Fin n → sProp 𝕄} (s t : ℕ) (h : n ≤ t) : fam A B C s t = bigSep Finset.univ C :=
  bigSep_congr fun i _ => by rw [if_pos (by omega)]

end Fam

/-! ## The state -/

abbrev tok (c : Dev nD) (p : Port) : sProp 𝕄 := dutyTok ER (cell c p) 0 false
abbrev pos (c : Dev nD) (p : Port) : sProp 𝕄 := atPos ER (cell c p) 0 ∅ 0
abbrev due (c : Dev nD) (p : Port) : sProp 𝕄 := cred (tallyAt (cell c p) () (units p))
abbrev zero (c : Dev nD) (p : Port) : sProp 𝕄 := semVal (cell c p) 0

/-- A chunk on its way to the partner across `x`: to be sent, in flight, gone. -/
def xsA (c : Dev nD) (i : Fin 9) : sProp 𝕄 := iprop(tok c (xs i) ∗ tok (xp c) (xr i) ∗ pos c (xs i) ∗ xPc m ρ c i fullShare.left ∗ landAny (xp c) i)
def xsB (c : Dev nD) (i : Fin 9) : sProp 𝕄 := iprop(due c (xs i) ∗ pos c (xs i))
def xsC (c : Dev nD) (i : Fin 9) : sProp 𝕄 := iprop(zero c (xs i) ∗ xPc m ρ c i fullShare.left)
/-- A chunk from the partner across `x`: awaited, here. -/
def xrA (c : Dev nD) (i : Fin 9) : sProp 𝕄 := iprop(due c (xr i) ∗ pos c (xr i))
def xrB (c : Dev nD) (i : Fin 9) : sProp 𝕄 := iprop(zero c (xr i) ∗ landPc m ρ c i)
/-- A chunk on its way to the partner across `y`. -/
def ysA (c : Dev nD) (j : Fin 7) : sProp 𝕄 := iprop(tok c (ys j) ∗ tok (yp c) (yr j) ∗ pos c (ys j) ∗ outAny (yp c) (yb c) (up j))
def ysB (c : Dev nD) (j : Fin 7) : sProp 𝕄 := iprop(due c (ys j) ∗ pos c (ys j))
def ysC (c : Dev nD) (j : Fin 7) : sProp 𝕄 := iprop(zero c (ys j) ∗ outPc m ρ c (yb c) (up j))
/-- A chunk from the partner across `y`. -/
def yrA (c : Dev nD) (j : Fin 7) : sProp 𝕄 := iprop(due c (yr j) ∗ pos c (yr j))
def yrB (c : Dev nD) (j : Fin 7) : sProp 𝕄 := iprop(zero c (yr j) ∗ outPc m ρ c (yb (yp c)) (up j))
/-- A chunk of the sums a device makes: to be made, made, handed to a transfer. -/
def sumA (c : Dev nD) (i : Fin 9) : sProp 𝕄 := outAny c (yb c) i
def sumB (c : Dev nD) (i : Fin 9) : sProp 𝕄 := outPc m ρ c (yb c) i

/-- Nothing, at every item. -/
abbrev gone {n : ℕ} : Fin n → sProp 𝕄 := fun _ => iprop(emp)

/-- What device `c` keeps to itself throughout: half the ownership of its block, and the other half of what it never sends. -/
def kept (c : Dev nD) : sProp 𝕄 :=
  iprop((xLoc c ↦[Finset.univ]{fullShare.right} X m ρ c)
    ∗ (xLoc c ↦[Finset.univ \ Finset.univ.biUnion fun i : Fin 9 => srcSet (yb c) i]{fullShare.left} X m ρ c))

/-- Device `c` in its body: `sx` chunks sent across `x`, `wx` of those gone, `rx` received, `so` sums made,
    `sy` of those sent across `y`, `wy` gone, `ry` received. -/
def St (K : Dev nD × Port → ℕ) (c : Dev nD) (sx wx rx so sy wy ry : ℕ) : sProp 𝕄 :=
  iprop(records m ρ K ∗ levAts L lv ∗ (∃ W, owes (c : Thread nD τ) (owed c sx sy) W) ∗ (zero c bar ∗ kept m ρ c)
    ∗ fam (xsA m ρ c) (xsB c) (xsC m ρ c) sx wx ∗ fam (xrA c) (xrB m ρ c) gone rx 0
    ∗ fam (sumA c) (sumB m ρ c) gone so sy
    ∗ fam (ysA c) (ysB c) (ysC m ρ c) sy wy ∗ fam (yrA c) (yrB m ρ c) gone ry 0)

/-! ## Where a chunk's elements lie -/

section Emb
variable {N lo n : ℕ}

omit [FloatOps F] in
/-- Row and column of an element of a rectangle of whole rows. -/
theorem emb_val (inb : ∀ a, (![lo, 0] : Fin 2 → ℕ) a + (![n, 512] : Fin 2 → ℕ) a ≤ (⟨2, ![N, 512]⟩ : Shape).size a)
    (x : (⟨2, ![n, 512]⟩ : Shape).Idx) :
    ((Rect.unit (s := ⟨2, ![N, 512]⟩) ![lo, 0] ![n, 512] inb).emb x 0).val = lo + (x 0).val
      ∧ ((Rect.unit (s := ⟨2, ![N, 512]⟩) ![lo, 0] ![n, 512] inb).emb x 1).val = (x 1).val :=
  ⟨ValueKit.rect_emb_unit_val _ _ _ _ _, (ValueKit.rect_emb_unit_val _ _ _ _ _).trans (Nat.zero_add _)⟩

/-- What a landed element is: the partner's element in the matching row. -/
theorem landing_emb (y : Fin 2) (i : Fin 9) (u : S512x512.Idx → F .f32)
    (inbr : ∀ a, (![xoff i, 0] : Fin 2 → ℕ) a + (![xlen i, 512] : Fin 2 → ℕ) a ≤ S304x512.size a)
    (inbx : ∀ a, (![srcRow y i, 0] : Fin 2 → ℕ) a + (![xlen i, 512] : Fin 2 → ℕ) a ≤ S512x512.size a)
    (x : (⟨2, ![xlen i, 512]⟩ : Shape).Idx) :
    landing y u ((Rect.unit (s := S304x512) ![xoff i, 0] ![xlen i, 512] inbr).emb x)
      = u ((Rect.unit (s := S512x512) ![srcRow y i, 0] ![xlen i, 512] inbx).emb x) := by
  obtain ⟨r0, r1⟩ := emb_val (N := 304) inbr x
  obtain ⟨x0, x1⟩ := emb_val (N := 512) inbx x
  unfold landing
  rw [← at2_self ((Rect.unit (s := S512x512) ![srcRow y i, 0] ![xlen i, 512] inbx).emb x)]
  rw [r0, x0, landRow_chunk y i _ (x 0).isLt]
  congr 2

end Emb

theorem result_own (y : Fin 2) (v u p q : S512x512.Idx → F .f32) (i : Fin 9) (e : S512x512.Idx) (he : e ∈ srcSet y i) :
    result y v u p q e = FloatOps.addf (v e) (u e) := by
  unfold result
  rw [mem_rows] at he
  rw [if_neg]
  have h := not_given_src y i ((e 0).val - srcRow y i) (by omega)
  rwa [Nat.add_sub_cancel' he.1] at h

theorem result_given (y y' : Fin 2) (h : y'.val = 1 - y.val) (v u p q : S512x512.Idx → F .f32) (j : Fin 7) (e : S512x512.Idx) (he : e ∈ srcSet y' (up j)) :
    result y v u p q e = FloatOps.addf (p e) (q e) := by
  unfold result
  rw [mem_rows] at he
  rw [if_pos]
  have h := given_other y y' h j ((e 0).val - srcRow y' (up j)) (by omega)
  rwa [Nat.add_sub_cancel' he.1] at h

/-- The partners across `y` agree on what one hands the other. -/
theorem outAt_agree (c : Dev nD) (j : Fin 7) (e : S512x512.Idx) (he : e ∈ srcSet (yb c) (up j)) : outAt m ρ c e = outAt m ρ (yp c) e := by
  unfold outAt
  refine (result_own _ _ _ _ _ (up j) e he).trans ?_
  refine Eq.trans ?_ (result_given (yb (yp c)) (yb c) ?_ _ _ _ _ j e he).symm
  · rw [yp_yp]
  · have := yb_yp (yp c); rwa [yp_yp] at this

/-! ## What a transfer or a store leaves -/

omit [FloatOps F] in
/-- Contents written through a view, told on the view's elements by what was written. -/
theorem write_eq {κ : Kind} {sp : Space} {s : Shape} {e : EltTy} (v : View sig κ sp s e) (fd g : v.ty.Contents (Elt F)) (w : s.Idx → Elt F e)
    (h : ∀ x, cast (congrArg (Elt F) v.elt_eq.symm) (w x) = g (v.emb x)) : ∀ i ∈ v.set, v.write (Elt F) fd w Finset.univ i = g i := by
  intro i hi
  obtain ⟨x, -, rfl⟩ := Finset.mem_map.mp hi
  rw [View.write_emb_of_mem (Val := Elt F) (f := fd) (w := w) (Finset.mem_univ x)]
  exact h x

/-- What a send across `x` leaves in the partner's landing rows. -/
theorem sent_x (c : Dev nD) (i : Fin 9) (inbx : ∀ a, (![srcRow (yb c) i, 0] : Fin 2 → ℕ) a + (![xlen i, 512] : Fin 2 → ℕ) a ≤ S512x512.size a)
    (inbr : ∀ a, (![xoff i, 0] : Fin 2 → ℕ) a + (![xlen i, 512] : Fin 2 → ℕ) a ≤ S304x512.size a) (fd : Buf (Elt F) (rLoc (xp c))) :
    ∀ e ∈ (rM.access (Rect.unit (s := S304x512) ![xoff i, 0] ![xlen i, 512] inbr)).set,
      (rM.access (Rect.unit (s := S304x512) ![xoff i, 0] ![xlen i, 512] inbr)).write (Elt F) fd
        ((xM.access (Rect.unit (s := S512x512) ![srcRow (yb c) i, 0] ![xlen i, 512] inbx)).read (Elt F) (X m ρ c)) Finset.univ e = landed m ρ (xp c) e :=
  write_eq (rM.access (Rect.unit (s := S304x512) ![xoff i, 0] ![xlen i, 512] inbr)) fd (landed m ρ (xp c)) _ fun x => by
    show X m ρ c ((Rect.unit (s := S512x512) ![srcRow (yb c) i, 0] ![xlen i, 512] inbx).emb x)
      = landing (yb (xp c)) (X m ρ (xp (xp c))) ((Rect.unit (s := S304x512) ![xoff i, 0] ![xlen i, 512] inbr).emb x)
    rw [yb_xp, xp_xp]
    exact (landing_emb (yb c) i (X m ρ c) inbr inbx x).symm

/-- What a send across `y` leaves in the partner's result. -/
theorem sent_y (c : Dev nD) (j : Fin 7) (inb : ∀ a, (![srcRow (yb c) (up j), 0] : Fin 2 → ℕ) a + (![xlen (up j), 512] : Fin 2 → ℕ) a ≤ S512x512.size a)
    (fd : Buf (Elt F) (oLoc (yp c))) :
    ∀ e ∈ (oM.access (Rect.unit (s := S512x512) ![srcRow (yb c) (up j), 0] ![xlen (up j), 512] inb)).set,
      (oM.access (Rect.unit (s := S512x512) ![srcRow (yb c) (up j), 0] ![xlen (up j), 512] inb)).write (Elt F) fd
        ((oM.access (Rect.unit (s := S512x512) ![srcRow (yb c) (up j), 0] ![xlen (up j), 512] inb)).read (Elt F) (outAt m ρ c)) Finset.univ e
        = outAt m ρ (yp c) e :=
  write_eq (oM.access (Rect.unit (s := S512x512) ![srcRow (yb c) (up j), 0] ![xlen (up j), 512] inb)) fd (outAt m ρ (yp c)) _ fun x =>
    outAt_agree m ρ c j _ (by
      unfold srcSet; rw [← set_o (lo := srcRow (yb c) (up j)) (n := xlen (up j)) rfl inb]
      exact View.emb_mem_set _ x)

/-- What storing a chunk's sum leaves in the device's result. -/
theorem stored (c : Dev nD) (i : Fin 9) (inbx : ∀ a, (![srcRow (yb c) i, 0] : Fin 2 → ℕ) a + (![xlen i, 512] : Fin 2 → ℕ) a ≤ S512x512.size a)
    (inbr : ∀ a, (![xoff i, 0] : Fin 2 → ℕ) a + (![xlen i, 512] : Fin 2 → ℕ) a ≤ S304x512.size a) (f : Buf (Elt F) (oLoc c)) :
    ∀ e ∈ (oM.access (Rect.unit (s := S512x512) ![srcRow (yb c) i, 0] ![xlen i, 512] inbx)).set,
      (oM.access (Rect.unit (s := S512x512) ![srcRow (yb c) i, 0] ![xlen i, 512] inbx)).write (Elt F) f
        (addf ((xM.access (Rect.unit (s := S512x512) ![srcRow (yb c) i, 0] ![xlen i, 512] inbx)).read (Elt F) (X m ρ c))
          ((rM.access (Rect.unit (s := S304x512) ![xoff i, 0] ![xlen i, 512] inbr)).read (Elt F) (landed m ρ c))) Finset.univ e = outAt m ρ c e :=
  write_eq (oM.access (Rect.unit (s := S512x512) ![srcRow (yb c) i, 0] ![xlen i, 512] inbx)) f (outAt m ρ c) _ fun x => by
    have hm : (Rect.unit (s := S512x512) ![srcRow (yb c) i, 0] ![xlen i, 512] inbx).emb x ∈ srcSet (yb c) i := by
      unfold srcSet; rw [← set_o (lo := srcRow (yb c) i) (n := xlen i) rfl inbx]
      exact View.emb_mem_set _ x
    refine Eq.trans ?_ (result_own (yb c) (X m ρ c) (X m ρ (xp c)) (X m ρ (yp c)) (X m ρ (xp (yp c))) i _ hm).symm
    show FloatOps.addf (X m ρ c ((Rect.unit (s := S512x512) ![srcRow (yb c) i, 0] ![xlen i, 512] inbx).emb x))
      (landing (yb c) (X m ρ (xp c)) ((Rect.unit (s := S304x512) ![xoff i, 0] ![xlen i, 512] inbr).emb x)) = _
    rw [landing_emb (yb c) i (X m ρ (xp c)) inbr inbx x]

section Step

variable (K : Dev nD × Port → ℕ) (c : Dev nD) {α : Type} {Q : α → sProp (MT nD τ sig Unit (Elt F) ℕ UU ℕ)}

/-- A wait on one of the device's own transfer semaphores, with the cell closed right after: its counter at zero, and
    what the transfer handed over. -/
theorem wait_step (p : DPort) {sem : DmaSem sig} (hsem : sem = dsem p) {sp sp' : Space} {s s' : Shape} {e e' : EltTy}
    {src : Memref sig .tc sp s e} {dst : Memref sig .tc sp' s' e'} {hsrc : src.view.WordExact} {hdst : dst.view.WordExact}
    (hN : dst.view.dmaCredit = units (.inr p)) (O : Tallies) (hO : (levAts L lv : sProp 𝕄) ⊢ MayWait (c : Thread nD τ) (csem (.inr p)) () O)
    {P : sProp 𝕄} (hP : pay m ρ c false (.inr p) = P)
    {k : PUnit → Prog (TpuEff nD τ sig (Elt F) Λ₀ .tc) α} :
    iprop(records m ρ K ∗ levAts L lv ∗ (∃ W, owes (c : Thread nD τ) O W) ∗ due c (.inr p) ∗ pos c (.inr p))
      ⊢ iprop((((∃ W, owes (c : Thread nD τ) O W) ∗ zero c (.inr p) ∗ P) -∗ WP c (k ⟨⟩) Q)
          -∗ WP c (.op (.waitDma2 sem src dst hsrc hdst) k) Q) := by
  subst hsem
  iintro ⟨#HR, #Hlev, ⟨%W, HO⟩, Hc, Hat⟩ Hk
  ihave #HI := (records_inv m ρ K c (.inr p)) $$ HR
  iapply (Rounds.wp_wait_rest_token 𝒱₀ ER (Rd m ρ) (c : Thread nD τ) none (κ := K (c, .inr p))
      (wpE_waitDma2_eq 𝒱₀ (c : Thread nD τ) none Set.univ) (Set.mem_univ _) () (O := O) (W := W) (R := 0) (m := 0) (T := ∅)
      (by rw [Nat.zero_add, hN]; exact (Rd_expect m ρ c p).symm)) $$ [Hc HO Hat]
  · isplitr; · iexact HI
    isplitl [Hc]; · rw [hN]; iexact Hc
    isplitl [HO]; · iexact HO
    isplitr; · iapply hO; iexact Hlev
    iexact Hat
  iintro ⟨HO, Hat, -, Hpay⟩
  ihave Hp := (Entails.of_eq ((Rd_rest m ρ c p).trans hP)) $$ Hpay
  imod (Rounds.cell_close ER (Rd m ρ) (Set.mem_univ (K (c, .inr p))) (fun h => h) (R := 0 + 1) (Rd_later m ρ (cell c (.inr p)))) $$ [Hat] with Hz
  · isplitr; · iexact HI
    iexact Hat
  iapply Hk
  isplitl [HO]; · iexists _; iexact HO
  isplitl [Hz] <;> iassumption

/-- A send across `x`: the chunk's rows, half owned, and the partner's landing rows go to the transfer. -/
theorem xsend_step (i : Fin 9) {d : Dev nD} (hd : d = xp c) {offx offr : Fin 2 → ℕ} {n : ℕ} (hx : offx = ![srcRow (yb c) i, 0])
    (hr : offr = ![xoff i, 0]) (hn : n = xlen i) {sS sR : DmaSem sig} (hS : sS = dsem (.inl i)) (hR : sR = dsem (.inr (.inl i)))
    {inbx : ∀ a, offx a + (![n, 512] : Fin 2 → ℕ) a ≤ S512x512.size a} {inbr : ∀ a, offr a + (![n, 512] : Fin 2 → ℕ) a ≤ S304x512.size a}
    {h1 : ∀ a, (Rect.unit (s := S512x512) offx ![n, 512] inbx).stride a = 1} {h2 : ∀ a, (Rect.unit (s := S304x512) offr ![n, 512] inbr).stride a = 1}
    {hsc} {hsrc} {hdst} {hsem} {k : PUnit → Prog (TpuEff nD τ sig (Elt F) Λ₀ .tc) α} {rx so sy wy ry : ℕ} :
    St m ρ K c i.val 0 rx so sy wy ry
      ⊢ iprop((St m ρ K c (i.val + 1) 0 rx so sy wy ry -∗ WP c (k ⟨⟩) Q)
          -∗ WP c (.op (.enqueueDma (xM.slice (Rect.unit (s := S512x512) offx ![n, 512] inbx) h1)
              (.remote (Dev.tc d : Thread nD τ) (rM.slice (Rect.unit (s := S304x512) offr ![n, 512] inbr) h2) (.dma sS) hsc) (.dma sR) hsrc hdst hsem) k) Q) := by
  subst hd hx hr hn hS hR
  unfold St
  iintro ⟨#HR, #Hlev, ⟨%W, HO⟩, Hk, Hxs, Hrest⟩ Hgo
  ihave H := (fam_first (A := xsA m ρ c) (B := xsB c) (C := xsC m ρ c) i (Nat.zero_le _)) $$ Hxs
  unfold xsA landAny
  icases H with ⟨⟨HtS, HtR, Hat, Hx, ⟨%fd, Hl⟩⟩, Hback⟩
  ihave #HIs := (records_inv m ρ K c (xs i)) $$ HR
  ihave #HIr := (records_inv m ρ K (xp c) (xr i)) $$ HR
  ihave #Hrs := (records_reached m ρ K c (xs i)) $$ HR
  ihave #Hrr := (records_reached m ρ K (xp c) (xr i)) $$ HR
  have sx := set_x (lo := srcRow (yb c) i) (n := xlen i) rfl inbx
  have sr := set_r (lo := xoff i) (n := xlen i) rfl inbr
  iapply (Rounds.wp_send_pointsTo 𝒱₀ ER (Rd m ρ) (c : Thread nD τ) none (c' := (xp c : Thread nD τ)) (κ₁ := K (c, xs i)) (κ₂ := K (xp c, xr i))
    (src := xM.slice (Rect.unit (s := S512x512) ![srcRow (yb c) i, 0] ![xlen i, 512] inbx) h1)
    (dst := rM.slice (Rect.unit (s := S304x512) ![xoff i, 0] ![xlen i, 512] inbr) h2)
    (r₁ := 0) (r₂ := 0) (d₁ := false) (d₂ := false) (fs := X m ρ c) (fd := fd) (q := fullShare.left)
    (by rw [Rd_duties]; exact Finset.mem_singleton_self _) (by rw [Rd_duties]; exact Finset.mem_singleton_self _)
    () () (units (xs i)) rfl (Rd_amount m ρ c (xs i) false) (Rd_amount m ρ (xp c) (xr i) false)
    (owed c (i.val + 1) sy) (owed_x c i sy) (W := W)
    (by rw [Rd_payload]; exact Entails.of_eq (congrArg (fun S => (xLoc c ↦[S]{fullShare.left} X m ρ c : sProp 𝕄)) sx))
    (by
      rw [Rd_payload]
      exact Entails.of_eq ((pointsTo_congr (sent_x m ρ c i inbx inbr fd)).trans
        (congrArg (fun S => (rLoc (xp c) ↦[S]{fullShare} landed m ρ (xp c) : sProp 𝕄)) sr)))) $$ [HO HtS HtR Hx Hl]
  · isplitr; · iexact HIs
    isplitr; · iexact HIr
    isplitl [Hx]
    · unfold xPc
      iapply (Entails.of_eq (congrArg (fun S => (xLoc c ↦[S]{fullShare.left} X m ρ c : sProp 𝕄)) sx).symm); iexact Hx
    isplitl [Hl]
    · iapply (Entails.of_eq (congrArg (fun S => (rLoc (xp c) ↦[S]{fullShare} fd : sProp 𝕄)) sr).symm); iexact Hl
    isplitl [HO]; · iexact HO
    isplitl [HtS]; · iexact HtS
    isplitr; · iexact Hrs
    isplitl [HtR]; · iexact HtR
    iexact Hrr
  iintro ⟨Hc, HO⟩
  iapply Hgo
  isplitr; · iexact HR
  isplitr; · iexact Hlev
  isplitl [HO]; · iexists W; iexact HO
  isplitl [Hk]; · iexact Hk
  isplitl [Hback Hc Hat]
  · iapply Hback; unfold xsB; isplitl [Hc] <;> iassumption
  iexact Hrest

/-- A send across `y`: a chunk of sums just made, and the partner's rows for it, go to the transfer. -/
theorem ysend_step (j : Fin 7) {d : Dev nD} (hd : d = yp c) {off : Fin 2 → ℕ} {n : ℕ} (ho : off = ![srcRow (yb c) (up j), 0])
    (hn : n = xlen (up j)) {sS sR : DmaSem sig} (hS : sS = dsem (.inr (.inr (.inl j)))) (hR : sR = dsem (.inr (.inr (.inr j))))
    {inb : ∀ a, off a + (![n, 512] : Fin 2 → ℕ) a ≤ S512x512.size a}
    {h1 h2 : ∀ a, (Rect.unit (s := S512x512) off ![n, 512] inb).stride a = 1}
    {hsc} {hsrc} {hdst} {hsem} {k : PUnit → Prog (TpuEff nD τ sig (Elt F) Λ₀ .tc) α} {sx wx rx so ry : ℕ} (hso : j.val < so) :
    St m ρ K c sx wx rx so j.val 0 ry
      ⊢ iprop((St m ρ K c sx wx rx so (j.val + 1) 0 ry -∗ WP c (k ⟨⟩) Q)
          -∗ WP c (.op (.enqueueDma (oM.slice (Rect.unit (s := S512x512) off ![n, 512] inb) h1)
              (.remote (Dev.tc d : Thread nD τ) (oM.slice (Rect.unit (s := S512x512) off ![n, 512] inb) h2) (.dma sS) hsc) (.dma sR) hsrc hdst hsem) k) Q) := by
  subst hd ho hn hS hR
  unfold St
  iintro ⟨#HR, #Hlev, ⟨%W, HO⟩, Hk, Hxs, Hxr, Hsum, Hys, Hyr⟩ Hgo
  ihave H := (fam_first (A := ysA c) (B := ysB c) (C := ysC m ρ c) j (Nat.zero_le _)) $$ Hys
  ihave Hs := (show fam (sumA c) (sumB m ρ c) gone so j.val ⊢ iprop(sumB m ρ c (up j) ∗ (emp -∗ fam (sumA c) (sumB m ρ c) gone so (j.val + 1)))
    from fam_second (up j) hso) $$ Hsum
  unfold ysA outAny
  icases H with ⟨⟨HtS, HtR, Hat, ⟨%fd, Hl⟩⟩, Hback⟩
  icases Hs with ⟨Hx, Hsback⟩
  ihave #HIs := (records_inv m ρ K c (ys j)) $$ HR
  ihave #HIr := (records_inv m ρ K (yp c) (yr j)) $$ HR
  ihave #Hrs := (records_reached m ρ K c (ys j)) $$ HR
  ihave #Hrr := (records_reached m ρ K (yp c) (yr j)) $$ HR
  have so := set_o (lo := srcRow (yb c) (up j)) (n := xlen (up j)) rfl inb
  iapply (Rounds.wp_send_pointsTo 𝒱₀ ER (Rd m ρ) (c : Thread nD τ) none (c' := (yp c : Thread nD τ)) (κ₁ := K (c, ys j)) (κ₂ := K (yp c, yr j))
    (src := oM.slice (Rect.unit (s := S512x512) ![srcRow (yb c) (up j), 0] ![xlen (up j), 512] inb) h1)
    (dst := oM.slice (Rect.unit (s := S512x512) ![srcRow (yb c) (up j), 0] ![xlen (up j), 512] inb) h2)
    (r₁ := 0) (r₂ := 0) (d₁ := false) (d₂ := false) (fs := outAt m ρ c) (fd := fd) (q := fullShare)
    (by rw [Rd_duties]; exact Finset.mem_singleton_self _) (by rw [Rd_duties]; exact Finset.mem_singleton_self _)
    () () (units (ys j)) rfl (Rd_amount m ρ c (ys j) false) (Rd_amount m ρ (yp c) (yr j) false)
    (owed c sx (j.val + 1)) (owed_y c sx j) (W := W)
    (by rw [Rd_payload]; exact Entails.of_eq (congrArg (fun S => (oLoc c ↦[S]{fullShare} outAt m ρ c : sProp 𝕄)) so))
    (by
      rw [Rd_payload]
      unfold pay; rw [yp_yp]
      exact Entails.of_eq ((pointsTo_congr (sent_y m ρ c j inb fd)).trans
        (congrArg (fun S => (oLoc (yp c) ↦[S]{fullShare} outAt m ρ (yp c) : sProp 𝕄)) so)))) $$ [HO HtS HtR Hx Hl]
  · isplitr; · iexact HIs
    isplitr; · iexact HIr
    isplitl [Hx]
    · unfold sumB outPc
      iapply (Entails.of_eq (congrArg (fun S => (oLoc c ↦[S]{fullShare} outAt m ρ c : sProp 𝕄)) so).symm); iexact Hx
    isplitl [Hl]
    · iapply (Entails.of_eq (congrArg (fun S => (oLoc (yp c) ↦[S]{fullShare} fd : sProp 𝕄)) so).symm); iexact Hl
    isplitl [HO]; · iexact HO
    isplitl [HtS]; · iexact HtS
    isplitr; · iexact Hrs
    isplitl [HtR]; · iexact HtR
    iexact Hrr
  iintro ⟨Hc, HO⟩
  iapply Hgo
  isplitr; · iexact HR
  isplitr; · iexact Hlev
  isplitl [HO]; · iexists W; iexact HO
  isplitl [Hk]; · iexact Hk
  isplitl [Hxs]; · iexact Hxs
  isplitl [Hxr]; · iexact Hxr
  isplitl [Hsback]; · iapply Hsback; iempintro
  isplitl [Hback Hc Hat]
  · iapply Hback; unfold ysB; isplitl [Hc] <;> iassumption
  iexact Hyr

/-- A chunk from the partner across `x` arrives. -/
theorem xrecv_step (i : Fin 9) {sem : DmaSem sig} (hsem : sem = dsem (.inr (.inl i))) {sp sp' : Space} {s s' : Shape} {e e' : EltTy}
    {src : Memref sig .tc sp s e} {dst : Memref sig .tc sp' s' e'} {hsrc : src.view.WordExact} {hdst : dst.view.WordExact}
    (hN : dst.view.dmaCredit = units (xr i)) {k : PUnit → Prog (TpuEff nD τ sig (Elt F) Λ₀ .tc) α} {so sy wy ry : ℕ} :
    St m ρ K c 9 0 i.val so sy wy ry
      ⊢ iprop((St m ρ K c 9 0 (i.val + 1) so sy wy ry -∗ WP c (k ⟨⟩) Q) -∗ WP c (.op (.waitDma2 sem src dst hsrc hdst) k) Q) := by
  unfold St
  iintro ⟨#HR, #Hlev, HO, Hk, Hxs, Hxr, Hrest⟩ Hgo
  ihave H := (fam_first (A := xrA c) (B := xrB m ρ c) (C := gone) i (Nat.zero_le _)) $$ Hxr
  unfold xrA
  icases H with ⟨⟨Hc, Hat⟩, Hback⟩
  iapply (wait_step (P := landPc m ρ c i) m ρ K c (.inr (.inl i)) hsem hN (owed c 9 sy) (mayWait_owed c (xr i) 9 sy (by omega) (fun _ => Nat.lt_succ_self 2)) rfl) $$ [HO Hc Hat]
  · isplitr; · iexact HR
    isplitr; · iexact Hlev
    isplitl [HO]; · iexact HO
    isplitl [Hc] <;> iassumption
  iintro ⟨HO, Hz, Hp⟩
  iapply Hgo
  isplitr; · iexact HR
  isplitr; · iexact Hlev
  isplitl [HO]; · iexact HO
  isplitl [Hk]; · iexact Hk
  isplitl [Hxs]; · iexact Hxs
  isplitl [Hback Hz Hp]
  · iapply Hback; unfold xrB; isplitl [Hz]; · iexact Hz
    iexact Hp
  iexact Hrest

/-- A chunk sent across `x` has gone. -/
theorem xgone_step (i : Fin 9) {sem : DmaSem sig} (hsem : sem = dsem (.inl i)) {sp sp' : Space} {s s' : Shape} {e e' : EltTy}
    {src : Memref sig .tc sp s e} {dst : Memref sig .tc sp' s' e'} {hsrc : src.view.WordExact} {hdst : dst.view.WordExact}
    (hN : dst.view.dmaCredit = units (xs i)) {k : PUnit → Prog (TpuEff nD τ sig (Elt F) Λ₀ .tc) α} {rx so wy ry : ℕ} :
    St m ρ K c 9 i.val rx so 7 wy ry
      ⊢ iprop((St m ρ K c 9 (i.val + 1) rx so 7 wy ry -∗ WP c (k ⟨⟩) Q) -∗ WP c (.op (.waitDma2 sem src dst hsrc hdst) k) Q) := by
  unfold St
  iintro ⟨#HR, #Hlev, HO, Hk, Hxs, Hrest⟩ Hgo
  ihave H := (fam_second (A := xsA m ρ c) (B := xsB c) (C := xsC m ρ c) i i.isLt) $$ Hxs
  unfold xsB
  icases H with ⟨⟨Hc, Hat⟩, Hback⟩
  iapply (wait_step (P := xPc m ρ c i fullShare.left) m ρ K c (.inl i) hsem hN (owed c 9 7) (mayWait_owed c (xs i) 9 7 (by omega) (by omega)) rfl) $$ [HO Hc Hat]
  · isplitr; · iexact HR
    isplitr; · iexact Hlev
    isplitl [HO]; · iexact HO
    isplitl [Hc] <;> iassumption
  iintro ⟨HO, Hz, Hp⟩
  iapply Hgo
  isplitr; · iexact HR
  isplitr; · iexact Hlev
  isplitl [HO]; · iexact HO
  isplitl [Hk]; · iexact Hk
  isplitl [Hback Hz Hp]
  · iapply Hback; unfold xsC; isplitl [Hz]; · iexact Hz
    iexact Hp
  iexact Hrest

/-- A chunk from the partner across `y` arrives. -/
theorem yrecv_step (j : Fin 7) {sem : DmaSem sig} (hsem : sem = dsem (.inr (.inr (.inr j)))) {sp sp' : Space} {s s' : Shape} {e e' : EltTy}
    {src : Memref sig .tc sp s e} {dst : Memref sig .tc sp' s' e'} {hsrc : src.view.WordExact} {hdst : dst.view.WordExact}
    (hN : dst.view.dmaCredit = units (yr j)) {k : PUnit → Prog (TpuEff nD τ sig (Elt F) Λ₀ .tc) α} {wx rx so wy : ℕ} :
    St m ρ K c 9 wx rx so 7 wy j.val
      ⊢ iprop((St m ρ K c 9 wx rx so 7 wy (j.val + 1) -∗ WP c (k ⟨⟩) Q) -∗ WP c (.op (.waitDma2 sem src dst hsrc hdst) k) Q) := by
  unfold St
  iintro ⟨#HR, #Hlev, HO, Hk, Hxs, Hxr, Hsum, Hys, Hyr⟩ Hgo
  ihave H := (fam_first (A := yrA c) (B := yrB m ρ c) (C := gone) j (Nat.zero_le _)) $$ Hyr
  unfold yrA
  icases H with ⟨⟨Hc, Hat⟩, Hback⟩
  iapply (wait_step (P := outPc m ρ c (yb (yp c)) (up j)) m ρ K c (.inr (.inr (.inr j))) hsem hN (owed c 9 7) (mayWait_owed c (yr j) 9 7 (by omega) (by omega)) rfl) $$ [HO Hc Hat]
  · isplitr; · iexact HR
    isplitr; · iexact Hlev
    isplitl [HO]; · iexact HO
    isplitl [Hc] <;> iassumption
  iintro ⟨HO, Hz, Hp⟩
  iapply Hgo
  isplitr; · iexact HR
  isplitr; · iexact Hlev
  isplitl [HO]; · iexact HO
  isplitl [Hk]; · iexact Hk
  isplitl [Hxs]; · iexact Hxs
  isplitl [Hxr]; · iexact Hxr
  isplitl [Hsum]; · iexact Hsum
  isplitl [Hys]; · iexact Hys
  iapply Hback; unfold yrB; isplitl [Hz]; · iexact Hz
  iexact Hp

/-- A chunk sent across `y` has gone. -/
theorem ygone_step (j : Fin 7) {sem : DmaSem sig} (hsem : sem = dsem (.inr (.inr (.inl j)))) {sp sp' : Space} {s s' : Shape} {e e' : EltTy}
    {src : Memref sig .tc sp s e} {dst : Memref sig .tc sp' s' e'} {hsrc : src.view.WordExact} {hdst : dst.view.WordExact}
    (hN : dst.view.dmaCredit = units (ys j)) {k : PUnit → Prog (TpuEff nD τ sig (Elt F) Λ₀ .tc) α} {wx rx so ry : ℕ} :
    St m ρ K c 9 wx rx so 7 j.val ry
      ⊢ iprop((St m ρ K c 9 wx rx so 7 (j.val + 1) ry -∗ WP c (k ⟨⟩) Q) -∗ WP c (.op (.waitDma2 sem src dst hsrc hdst) k) Q) := by
  unfold St
  iintro ⟨#HR, #Hlev, HO, Hk, Hxs, Hxr, Hsum, Hys, Hyr⟩ Hgo
  ihave H := (fam_second (A := ysA c) (B := ysB c) (C := ysC m ρ c) j j.isLt) $$ Hys
  unfold ysB
  icases H with ⟨⟨Hc, Hat⟩, Hback⟩
  iapply (wait_step (P := outPc m ρ c (yb c) (up j)) m ρ K c (.inr (.inr (.inl j))) hsem hN (owed c 9 7) (mayWait_owed c (ys j) 9 7 (by omega) (by omega)) rfl) $$ [HO Hc Hat]
  · isplitr; · iexact HR
    isplitr; · iexact Hlev
    isplitl [HO]; · iexact HO
    isplitl [Hc] <;> iassumption
  iintro ⟨HO, Hz, Hp⟩
  iapply Hgo
  isplitr; · iexact HR
  isplitr; · iexact Hlev
  isplitl [HO]; · iexact HO
  isplitl [Hk]; · iexact Hk
  isplitl [Hxs]; · iexact Hxs
  isplitl [Hxr]; · iexact Hxr
  isplitl [Hsum]; · iexact Hsum
  isplitl [Hback Hz Hp]
  · iapply Hback; unfold ysC; isplitl [Hz]; · iexact Hz
    iexact Hp
  iexact Hyr

/-- A load from the device's block. -/
theorem loadx_step {r : Rect S512x512} {hl : xM.view.LoadsAt r.toLoadRect} {k : (r.shape.Idx → Elt F .f32) → Prog (TpuEff nD τ sig (Elt F) Λ₀ .tc) α}
    {sx wx rx so sy wy ry : ℕ} :
    St m ρ K c sx wx rx so sy wy ry
      ⊢ iprop((St m ρ K c sx wx rx so sy wy ry -∗ WP c (k ((xM.access r).read (Elt F) (X m ρ c))) Q) -∗ WP c (.op (.load xM r.toLoadRect hl) k) Q) := by
  unfold St kept
  iintro ⟨HR, Hlev, HO, ⟨Hb, ⟨Hx, Hx'⟩⟩, Hrest⟩ Hgo
  iapply (wp_load_rect 𝒱₀ (c : Thread nD τ) none Set.univ (m := xM) (r := r) (Finset.subset_univ _)) $$ Hx; iintro Hx
  iapply Hgo
  isplitl [HR]; · iexact HR
  isplitl [Hlev]; · iexact Hlev
  isplitl [HO]; · iexact HO
  isplitl [Hb Hx Hx']
  · isplitl [Hb]; · iexact Hb
    isplitl [Hx] <;> iassumption
  iexact Hrest

/-- A load of a chunk that has landed. -/
theorem loadr_step (i : Fin 9) {off : Fin 2 → ℕ} {n : ℕ} (ho : off = ![xoff i, 0]) (hn : n = xlen i)
    {inb : ∀ a, off a + (![n, 512] : Fin 2 → ℕ) a ≤ S304x512.size a} {hl : rM.view.LoadsAt (Rect.unit (s := S304x512) off ![n, 512] inb).toLoadRect}
    {k : ((⟨2, ![n, 512]⟩ : Shape).Idx → Elt F .f32) → Prog (TpuEff nD τ sig (Elt F) Λ₀ .tc) α} {sx wx rx so sy wy ry : ℕ} (hi : i.val < rx) :
    St m ρ K c sx wx rx so sy wy ry
      ⊢ iprop((St m ρ K c sx wx rx so sy wy ry -∗ WP c (k ((rM.access (Rect.unit (s := S304x512) off ![n, 512] inb)).read (Elt F) (landed m ρ c))) Q)
          -∗ WP c (.op (.load rM (Rect.unit (s := S304x512) off ![n, 512] inb).toLoadRect hl) k) Q) := by
  subst ho hn
  unfold St
  iintro ⟨HR, Hlev, HO, Hk, Hxs, Hxr, Hrest⟩ Hgo
  ihave H := (fam_borrow (A := xrA c) (B := xrB m ρ c) (C := gone) i (Nat.zero_le _) hi) $$ Hxr
  unfold xrB landPc
  icases H with ⟨⟨Hz, Hl⟩, Hback⟩
  iapply (wp_load_rect 𝒱₀ (c : Thread nD τ) none Set.univ (m := rM) (r := Rect.unit (s := S304x512) ![xoff i, 0] ![xlen i, 512] inb)
    (subset_of_eq (set_r rfl inb))) $$ Hl; iintro Hl
  iapply Hgo
  isplitl [HR]; · iexact HR
  isplitl [Hlev]; · iexact Hlev
  isplitl [HO]; · iexact HO
  isplitl [Hk]; · iexact Hk
  isplitl [Hxs]; · iexact Hxs
  isplitl [Hback Hz Hl]
  · iapply Hback; isplitl [Hz] <;> iassumption
  iexact Hrest

/-- A load of result rows still to be written: whatever is there. -/
theorem loado_step (i : Fin 9) {off : Fin 2 → ℕ} {n : ℕ} (ho : off = ![srcRow (yb c) i, 0]) (hn : n = xlen i)
    {inb : ∀ a, off a + (![n, 512] : Fin 2 → ℕ) a ≤ S512x512.size a} {hl : oM.view.LoadsAt (Rect.unit (s := S512x512) off ![n, 512] inb).toLoadRect}
    {k : ((⟨2, ![n, 512]⟩ : Shape).Idx → Elt F .f32) → Prog (TpuEff nD τ sig (Elt F) Λ₀ .tc) α} {sx wx rx sy wy ry : ℕ} (hi : sy ≤ i.val) :
    St m ρ K c sx wx rx i.val sy wy ry
      ⊢ iprop((∀ v, St m ρ K c sx wx rx i.val sy wy ry -∗ WP c (k v) Q)
          -∗ WP c (.op (.load oM (Rect.unit (s := S512x512) off ![n, 512] inb).toLoadRect hl) k) Q) := by
  subst ho hn
  unfold St
  iintro ⟨HR, Hlev, HO, Hk, Hxs, Hxr, Hsum, Hrest⟩ Hgo
  ihave H := (fam_borrow_first (A := sumA c) (B := sumB m ρ c) (C := gone) i hi le_rfl) $$ Hsum
  unfold sumA outAny
  icases H with ⟨⟨%f, Hl⟩, Hback⟩
  iapply (wp_load_rect 𝒱₀ (c : Thread nD τ) none Set.univ (m := oM) (r := Rect.unit (s := S512x512) ![srcRow (yb c) i, 0] ![xlen i, 512] inb)
    (subset_of_eq (set_o rfl inb))) $$ Hl; iintro Hl
  iapply Hgo
  isplitl [HR]; · iexact HR
  isplitl [Hlev]; · iexact Hlev
  isplitl [HO]; · iexact HO
  isplitl [Hk]; · iexact Hk
  isplitl [Hxs]; · iexact Hxs
  isplitl [Hxr]; · iexact Hxr
  isplitl [Hback Hl]
  · iapply Hback; iexists f; iexact Hl
  iexact Hrest

/-- A chunk's sum is stored. -/
theorem store_step (i : Fin 9) {off offr : Fin 2 → ℕ} {n : ℕ} (ho : off = ![srcRow (yb c) i, 0]) (hr : offr = ![xoff i, 0]) (hn : n = xlen i)
    {inb : ∀ a, off a + (![n, 512] : Fin 2 → ℕ) a ≤ S512x512.size a} (inbr : ∀ a, offr a + (![n, 512] : Fin 2 → ℕ) a ≤ S304x512.size a)
    {w : (⟨2, ![n, 512]⟩ : Shape).Idx → F .f32}
    (hw : w = addf ((xM.access (Rect.unit (s := S512x512) off ![n, 512] inb)).read (Elt F) (X m ρ c))
      ((rM.access (Rect.unit (s := S304x512) offr ![n, 512] inbr)).read (Elt F) (landed m ρ c)))
    {hx} {hm} {k : PUnit → Prog (TpuEff nD τ sig (Elt F) Λ₀ .tc) α} {sx wx rx sy wy ry : ℕ} (hi : sy ≤ i.val) :
    St m ρ K c sx wx rx i.val sy wy ry
      ⊢ iprop((St m ρ K c sx wx rx (i.val + 1) sy wy ry -∗ WP c (k ⟨⟩) Q)
          -∗ WP c (.op (.store oM (Rect.unit (s := S512x512) off ![n, 512] inb) w Finset.univ hx hm) k) Q) := by
  subst ho hr hn hw
  unfold St
  iintro ⟨HR, Hlev, HO, Hk, Hxs, Hxr, Hsum, Hrest⟩ Hgo
  ihave H := (fam_first (A := sumA c) (B := sumB m ρ c) (C := gone) i hi) $$ Hsum
  unfold sumA outAny
  icases H with ⟨⟨%f, Hl⟩, Hback⟩
  have so := set_o (lo := srcRow (yb c) i) (n := xlen i) rfl inb
  iapply (wp_store 𝒱₀ (c : Thread nD τ) none Set.univ (m := oM) (r := Rect.unit (s := S512x512) ![srcRow (yb c) i, 0] ![xlen i, 512] inb)
    (Mk := Finset.univ) (subset_of_eq so)) $$ Hl; iintro Hl
  iapply Hgo
  isplitl [HR]; · iexact HR
  isplitl [Hlev]; · iexact Hlev
  isplitl [HO]; · iexact HO
  isplitl [Hk]; · iexact Hk
  isplitl [Hxs]; · iexact Hxs
  isplitl [Hxr]; · iexact Hxr
  isplitl [Hback Hl]
  · iapply Hback; unfold sumB outPc
    iapply (Entails.of_eq (pointsTo_congr fun e he => stored m ρ c i inb inbr f e (so ▸ he))); iexact Hl
  iexact Hrest

end Step

end Cert.Exchange

end
-- ==== Proof.Body.lean ====
/-
The body of a device, part by part: each part is a run of steps.
-/
module

public import proofs.«01_k».proof.Proof.Steps
public import Idealize.ShloMosaic.Lib.Pipeline.Value

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The devices and offsets the body computes -/

/-- A device number that is the partner's is the partner. -/
theorem dev_x {c : Dev nD} {n : ℕ} {h : n < nD} (e : n = (4 * ((c.val / 4) % 2) + (c.val % 4) + 8) - 8 * (c.val / 8)) : (⟨n, h⟩ : Dev nD) = xp c :=
  Fin.ext (e.trans (xp_val c))
theorem dev_y {c : Dev nD} {n : ℕ} {h : n < nD} (e : n = (8 * (c.val / 8) + (c.val % 4) + 4) - 4 * ((c.val / 4) % 2)) : (⟨n, h⟩ : Dev nD) = yp c :=
  Fin.ext (e.trans (yp_val c))

/-- One step, then the rest. -/
theorem chain {A B R W₁ W₂ : sProp (MT nD τ sig Unit (Elt F) ℕ UU ℕ)} (h : A ⊢ iprop((B -∗ W₁) -∗ W₂)) (h' : B ⊢ iprop(R -∗ W₁)) : A ⊢ iprop(R -∗ W₂) := by
  iintro HA HR
  iapply h $$ HA
  iintro HB
  iapply h' $$ HB HR
/-- The same where the rest does not know the value the step returned. -/
theorem chain_any {β : Type} {A B R W₂ : sProp (MT nD τ sig Unit (Elt F) ℕ UU ℕ)} {W₁ : β → sProp (MT nD τ sig Unit (Elt F) ℕ UU ℕ)}
    (h : A ⊢ iprop((∀ v, B -∗ W₁ v) -∗ W₂)) (h' : ∀ v, B ⊢ iprop(R -∗ W₁ v)) : A ⊢ iprop(R -∗ W₂) := by
  iintro HA HR
  iapply h $$ HA
  iintro %v HB
  iapply (h' v) $$ HB HR

/-- A program of device `c` leads from `A` to `B`, with a result of which `R` holds. -/
def Runs (c : Dev nD) {α : Type} (A : sProp (MT nD τ sig Unit (Elt F) ℕ UU ℕ)) (p : Prog (TpuEff nD τ sig (Elt F) Λ₀ .tc) α) (R : α → Prop)
    (B : sProp (MT nD τ sig Unit (Elt F) ℕ UU ℕ)) : Prop :=
  ∀ Kt : α → sProp (MT nD τ sig Unit (Elt F) ℕ UU ℕ), A ⊢ iprop((∀ v, ⌜R v⌝ -∗ B -∗ Kt v) -∗ WP c p Kt)

/-- Nothing left to do. -/
theorem finish (c : Dev nD) {α : Type} {A : sProp (MT nD τ sig Unit (Elt F) ℕ UU ℕ)} {v : α} {R : α → Prop} (h : R v) {Kt : α → sProp (MT nD τ sig Unit (Elt F) ℕ UU ℕ)} :
    A ⊢ iprop((∀ v, ⌜R v⌝ -∗ A -∗ Kt v) -∗ WP c (.ret v) Kt) := by
  unfold WP
  iintro HA HK
  rw [wp_ret]; imodintro
  iapply HK $$ [] HA
  ipureintro; exact h

/-- Two runs one after the other. -/
theorem Runs.bind {c : Dev nD} {α β : Type} {A B C : sProp (MT nD τ sig Unit (Elt F) ℕ UU ℕ)} {p : Prog (TpuEff nD τ sig (Elt F) Λ₀ .tc) α}
    {k : α → Prog (TpuEff nD τ sig (Elt F) Λ₀ .tc) β} {R : α → Prop} {R' : β → Prop} (h : Runs c A p R B) (h' : ∀ v, R v → Runs c B (k v) R' C) :
    Runs c A (p >>= k) R' C := by
  intro Kt
  unfold WP
  rw [wp_bind]
  iintro HA HK
  iapply (h fun v => WP c (k v) Kt) $$ HA
  iintro %v %hv HB
  iapply (h' v hv Kt) $$ HB HK

/-- Any result will do. -/
abbrev any {α : Type} : α → Prop := fun _ => True

section Parts

/-- What is stored: the sum of what was loaded. -/
theorem sum_eq {s : Shape} {h : s.ShapeCasts s} (v w : FVec F s .f32) : addf (shapeCast s v h) w = addf v w := by
  rw [shapeCast_self]

variable (K : Dev nD × Port → ℕ) (c : Dev nD)

theorem part2 (v5 v8 v9 v11 v28 : BitVec 32) :
    Runs c (St m ρ K c 0 0 0 0 0 0 0)
      (k0_part2 (F := F) xM (Memref.isWhole_whole _) oM (Memref.isWhole_whole _) rM (Memref.isWhole_whole _) cc0_scratch1 cc0_scratch2 cc0_scratch3 cc0_scratch4 c v5 v8 v9 v11 v28)
      any (St m ρ K c 2 0 0 0 0 0 0) := by
  intro Kt
  rw [k0_part2_eq_skeleton]; unfold k0_part2_skel
  simp only [Prog.lift, Prog.bind_op, Prog.bind_ret, Prog.pure_eq_ret]
  refine chain (xsend_step m ρ K c 0 (dev_x (k0_dev3_eq c)) (k0_off1_eq c 0) (by rfl) (by rfl) (by rfl) (by rfl)) ?_
  refine chain (xsend_step m ρ K c 1 (dev_x (k0_dev4_eq c)) (k0_off2_eq c 0) (by rfl) (by rfl) (by rfl) (by rfl)) ?_
  exact finish c trivial

theorem part3 (v5 v8 v9 v11 : BitVec 32) :
    Runs c (St m ρ K c 2 0 0 0 0 0 0)
      (k0_part3 (F := F) xM (Memref.isWhole_whole _) oM (Memref.isWhole_whole _) rM (Memref.isWhole_whole _) cc0_scratch1 cc0_scratch2 cc0_scratch3 cc0_scratch4 c v5 v8 v9 v11)
      any (St m ρ K c 5 0 0 0 0 0 0) := by
  intro Kt
  rw [k0_part3_eq_skeleton]; unfold k0_part3_skel
  simp only [Prog.lift, Prog.bind_op, Prog.bind_ret, Prog.pure_eq_ret]
  refine chain (xsend_step m ρ K c 2 (dev_x (k0_dev5_eq c)) (k0_off2_eq c 1) (by rfl) (by rfl) (by rfl) (by rfl)) ?_
  refine chain (xsend_step m ρ K c 3 (dev_x (k0_dev6_eq c)) (k0_off3_eq c) (by rfl) (by rfl) (by rfl) (by rfl)) ?_
  refine chain (xsend_step m ρ K c 4 (dev_x (k0_dev7_eq c)) (k0_off4_eq c) (by rfl) (by rfl) (by rfl) (by rfl)) ?_
  exact finish c trivial

theorem part4 (v5 v8 v9 v11 v93 : BitVec 32) :
    Runs c (St m ρ K c 5 0 0 0 0 0 0)
      (k0_part4 (F := F) xM (Memref.isWhole_whole _) oM (Memref.isWhole_whole _) rM (Memref.isWhole_whole _) cc0_scratch1 cc0_scratch2 cc0_scratch3 cc0_scratch4 c v5 v8 v9 v11 v93)
      any (St m ρ K c 7 0 0 0 0 0 0) := by
  intro Kt
  rw [k0_part4_eq_skeleton]; unfold k0_part4_skel
  simp only [Prog.lift, Prog.bind_op, Prog.bind_ret, Prog.pure_eq_ret]
  refine chain (xsend_step m ρ K c 5 (dev_x (k0_dev8_eq c)) (k0_off5_eq c) (by rfl) (by rfl) (by rfl) (by rfl)) ?_
  refine chain (xsend_step m ρ K c 6 (dev_x (k0_dev9_eq c)) (k0_off6_eq c) (by rfl) (by rfl) (by rfl) (by rfl)) ?_
  exact finish c trivial

theorem part5 (v5 v8 v9 v11 v13 : BitVec 32) :
    Runs c (St m ρ K c 7 0 0 0 0 0 0)
      (k0_part5 (F := F) xM (Memref.isWhole_whole _) oM (Memref.isWhole_whole _) rM (Memref.isWhole_whole _) cc0_scratch1 cc0_scratch2 cc0_scratch3 cc0_scratch4 c v5 v8 v9 v11 v13)
      (fun v : Σ' (_ : BitVec 32), FVec F S48x512 .f32 => v.2 = k0_pay1 (F := F) ((xM.access (Rect.unit (s := S512x512) (k0_off8 c 0#32) S48x512.size (k0_off8_inb c 0))).read (Elt F) (X m ρ c))
        ((rM.access (Rect.unit (s := S304x512) ![0, 0] S48x512.size inb_S304x512_S48x512_0_0)).read (Elt F) (landed m ρ c))) (St m ρ K c 9 0 1 0 0 0 0) := by
  intro Kt
  rw [k0_part5_eq_skeleton]; unfold k0_part5_skel
  simp only [Prog.lift, Prog.bind_op, Prog.bind_ret, Prog.pure_eq_ret]
  refine chain (xsend_step m ρ K c 7 (dev_x (k0_dev10_eq c)) (k0_off1_eq c 1) (by rfl) (by rfl) (by rfl) (by rfl)) ?_
  refine chain (xsend_step m ρ K c 8 (dev_x (k0_dev11_eq c)) (k0_off7_eq c) (by rfl) (by rfl) (by rfl) (by rfl)) ?_
  refine chain (xrecv_step m ρ K c 0 (by rfl) (by rfl)) ?_
  refine chain (loadx_step m ρ K c) ?_
  refine chain (loadr_step m ρ K c 0 (by rfl) (by rfl) (by decide)) ?_
  exact finish c (by rfl)

theorem part6 (v2 v5 v8 v9 v10 v11 v154 : BitVec 32) (w : FVec F S48x512 .f32)
    (hw : w = k0_pay1 (F := F) ((xM.access (Rect.unit (s := S512x512) (k0_off8 c 0#32) S48x512.size (k0_off8_inb c 0))).read (Elt F) (X m ρ c))
        ((rM.access (Rect.unit (s := S304x512) ![0, 0] S48x512.size inb_S304x512_S48x512_0_0)).read (Elt F) (landed m ρ c))) :
    Runs c (St m ρ K c 9 0 1 0 0 0 0)
      (k0_part6 (F := F) xM (Memref.isWhole_whole _) oM (Memref.isWhole_whole _) rM (Memref.isWhole_whole _) cc0_scratch1 cc0_scratch2 cc0_scratch3 cc0_scratch4 c v2 v5 v8 v9 v10 v11 v154 w)
      any (St m ρ K c 9 0 2 2 1 0 0) := by
  intro Kt
  rw [k0_part6_eq_skeleton]; unfold k0_part6_skel
  simp only [Prog.lift, Prog.bind_op, Prog.bind_ret, Prog.pure_eq_ret]
  refine chain_any (loado_step m ρ K c 0 (k0_off8_eq c 0) (by rfl) (by decide)) fun _ => ?_
  refine chain (store_step m ρ K c 0 (k0_off8_eq c 0) (by rfl) (by rfl) inb_S304x512_S48x512_0_0 (by subst hw; exact sum_eq _ _) (by decide)) ?_
  refine chain (ysend_step m ρ K c 0 (dev_y (k0_dev12_eq c)) (k0_off1_eq c 0) (by rfl) (by rfl) (by rfl) (by decide)) ?_
  refine chain (xrecv_step m ρ K c 1 (by rfl) (by rfl)) ?_
  refine chain (loadx_step m ρ K c) ?_
  refine chain (loadr_step m ρ K c 1 (by rfl) (by rfl) (by decide)) ?_
  refine chain_any (loado_step m ρ K c 1 (k0_off9_eq c 0) (by rfl) (by decide)) fun _ => ?_
  refine chain (store_step m ρ K c 1 (k0_off9_eq c 0) (by rfl) (by rfl) inb_S304x512_S40x512_48_0 (sum_eq _ _) (by decide)) ?_
  exact finish c trivial

theorem part7 (v2 v5 v8 v9 v10 v11 : BitVec 32) :
    Runs c (St m ρ K c 9 0 2 2 1 0 0)
      (k0_part7 (F := F) xM (Memref.isWhole_whole _) oM (Memref.isWhole_whole _) rM (Memref.isWhole_whole _) cc0_scratch1 cc0_scratch2 cc0_scratch3 cc0_scratch4 c v2 v5 v8 v9 v10 v11)
      any (St m ρ K c 9 0 3 3 2 0 0) := by
  intro Kt
  rw [k0_part7_eq_skeleton]; unfold k0_part7_skel
  simp only [Prog.lift, Prog.bind_op, Prog.bind_ret, Prog.pure_eq_ret]
  refine chain (ysend_step m ρ K c 1 (dev_y (k0_dev13_eq c)) (k0_off2_eq c 0) (by rfl) (by rfl) (by rfl) (by decide)) ?_
  refine chain (xrecv_step m ρ K c 2 (by rfl) (by rfl)) ?_
  refine chain (loadx_step m ρ K c) ?_
  refine chain (loadr_step m ρ K c 2 (by rfl) (by rfl) (by decide)) ?_
  refine chain_any (loado_step m ρ K c 2 (k0_off9_eq c 1) (by rfl) (by decide)) fun _ => ?_
  refine chain (store_step m ρ K c 2 (k0_off9_eq c 1) (by rfl) (by rfl) inb_S304x512_S40x512_88_0 (sum_eq _ _) (by decide)) ?_
  exact finish c trivial

theorem part8 (v2 v5 v8 v9 v10 v11 v223 : BitVec 32) :
    Runs c (St m ρ K c 9 0 3 3 2 0 0)
      (k0_part8 (F := F) xM (Memref.isWhole_whole _) oM (Memref.isWhole_whole _) rM (Memref.isWhole_whole _) cc0_scratch1 cc0_scratch2 cc0_scratch3 cc0_scratch4 c v2 v5 v8 v9 v10 v11 v223)
      any (St m ρ K c 9 0 4 4 3 0 0) := by
  intro Kt
  rw [k0_part8_eq_skeleton]; unfold k0_part8_skel
  simp only [Prog.lift, Prog.bind_op, Prog.bind_ret, Prog.pure_eq_ret]
  refine chain (ysend_step m ρ K c 2 (dev_y (k0_dev14_eq c)) (k0_off2_eq c 1) (by rfl) (by rfl) (by rfl) (by decide)) ?_
  refine chain (xrecv_step m ρ K c 3 (by rfl) (by rfl)) ?_
  refine chain (loadx_step m ρ K c) ?_
  refine chain (loadr_step m ρ K c 3 (by rfl) (by rfl) (by decide)) ?_
  refine chain_any (loado_step m ρ K c 3 (k0_off10_eq c) (by rfl) (by decide)) fun _ => ?_
  refine chain (store_step m ρ K c 3 (k0_off10_eq c) (by rfl) (by rfl) inb_S304x512_S32x512_128_0 (sum_eq _ _) (by decide)) ?_
  exact finish c trivial

theorem part9 (v2 v5 v8 v9 v10 v11 v255 v256 : BitVec 32) :
    Runs c (St m ρ K c 9 0 4 4 3 0 0)
      (k0_part9 (F := F) xM (Memref.isWhole_whole _) oM (Memref.isWhole_whole _) rM (Memref.isWhole_whole _) cc0_scratch1 cc0_scratch2 cc0_scratch3 cc0_scratch4 c v2 v5 v8 v9 v10 v11 v255 v256)
      any (St m ρ K c 9 0 5 5 4 0 0) := by
  intro Kt
  rw [k0_part9_eq_skeleton]; unfold k0_part9_skel
  simp only [Prog.lift, Prog.bind_op, Prog.bind_ret, Prog.pure_eq_ret]
  refine chain (ysend_step m ρ K c 3 (dev_y (k0_dev15_eq c)) (k0_off3_eq c) (by rfl) (by rfl) (by rfl) (by decide)) ?_
  refine chain (xrecv_step m ρ K c 4 (by rfl) (by rfl)) ?_
  refine chain (loadx_step m ρ K c) ?_
  refine chain (loadr_step m ρ K c 4 (by rfl) (by rfl) (by decide)) ?_
  refine chain_any (loado_step m ρ K c 4 (k0_off11_eq c) (by rfl) (by decide)) fun _ => ?_
  refine chain (store_step m ρ K c 4 (k0_off11_eq c) (by rfl) (by rfl) inb_S304x512_S24x512_160_0 (sum_eq _ _) (by decide)) ?_
  exact finish c trivial

theorem part10 (v2 v5 v8 v9 v10 v11 : BitVec 32) :
    Runs c (St m ρ K c 9 0 5 5 4 0 0)
      (k0_part10 (F := F) xM (Memref.isWhole_whole _) oM (Memref.isWhole_whole _) rM (Memref.isWhole_whole _) cc0_scratch1 cc0_scratch2 cc0_scratch3 cc0_scratch4 c v2 v5 v8 v9 v10 v11)
      any (St m ρ K c 9 0 6 6 6 0 0) := by
  intro Kt
  rw [k0_part10_eq_skeleton]; unfold k0_part10_skel
  simp only [Prog.lift, Prog.bind_op, Prog.bind_ret, Prog.pure_eq_ret]
  refine chain (ysend_step m ρ K c 4 (dev_y (k0_dev16_eq c)) (k0_off4_eq c) (by rfl) (by rfl) (by rfl) (by decide)) ?_
  refine chain (xrecv_step m ρ K c 5 (by rfl) (by rfl)) ?_
  refine chain (loadx_step m ρ K c) ?_
  refine chain (loadr_step m ρ K c 5 (by rfl) (by rfl) (by decide)) ?_
  refine chain_any (loado_step m ρ K c 5 (k0_off12_eq c) (by rfl) (by decide)) fun _ => ?_
  refine chain (store_step m ρ K c 5 (k0_off12_eq c) (by rfl) (by rfl) inb_S304x512_S16x512_184_0 (sum_eq _ _) (by decide)) ?_
  refine chain (ysend_step m ρ K c 5 (dev_y (k0_dev17_eq c)) (k0_off5_eq c) (by rfl) (by rfl) (by rfl) (by decide)) ?_
  exact finish c trivial

theorem part11 (v2 v5 v8 v9 v10 v11 : BitVec 32) :
    Runs c (St m ρ K c 9 0 6 6 6 0 0)
      (k0_part11 (F := F) xM (Memref.isWhole_whole _) oM (Memref.isWhole_whole _) rM (Memref.isWhole_whole _) cc0_scratch1 cc0_scratch2 cc0_scratch3 cc0_scratch4 c v2 v5 v8 v9 v10 v11)
      any (St m ρ K c 9 0 7 7 7 0 0) := by
  intro Kt
  rw [k0_part11_eq_skeleton]; unfold k0_part11_skel
  simp only [Prog.lift, Prog.bind_op, Prog.bind_ret, Prog.pure_eq_ret]
  refine chain (xrecv_step m ρ K c 6 (by rfl) (by rfl)) ?_
  refine chain (loadx_step m ρ K c) ?_
  refine chain (loadr_step m ρ K c 6 (by rfl) (by rfl) (by decide)) ?_
  refine chain_any (loado_step m ρ K c 6 (k0_off13_eq c) (by rfl) (by decide)) fun _ => ?_
  refine chain (store_step m ρ K c 6 (k0_off13_eq c) (by rfl) (by rfl) inb_S304x512_S8x512_200_0 (sum_eq _ _) (by decide)) ?_
  refine chain (ysend_step m ρ K c 6 (dev_y (k0_dev18_eq c)) (k0_off6_eq c) (by rfl) (by rfl) (by rfl) (by decide)) ?_
  exact finish c trivial

theorem part12 (v5 v8 v9 v11 v13 v354 z : BitVec 32) :
    Runs c (St m ρ K c 9 0 7 7 7 0 0)
      (k0_part12 (F := F) xM (Memref.isWhole_whole _) oM (Memref.isWhole_whole _) rM (Memref.isWhole_whole _) cc0_scratch1 cc0_scratch2 cc0_scratch3 cc0_scratch4 c v5 v8 v9 v11 v13 v354 z)
      (fun v : FVec F S48x512 .f32 => v = k0_pay9 (F := F) ((xM.access (Rect.unit (s := S512x512) (k0_off14 c) S48x512.size (k0_off14_inb c))).read (Elt F) (X m ρ c))
        ((rM.access (Rect.unit (s := S304x512) ![256, 0] S48x512.size inb_S304x512_S48x512_256_0)).read (Elt F) (landed m ρ c))) (St m ρ K c 9 0 9 8 7 0 0) := by
  intro Kt
  rw [k0_part12_eq_skeleton]; unfold k0_part12_skel
  simp only [Prog.lift, Prog.bind_op, Prog.bind_ret, Prog.pure_eq_ret]
  refine chain (xrecv_step m ρ K c 7 (by rfl) (by rfl)) ?_
  refine chain (loadx_step m ρ K c) ?_
  refine chain (loadr_step m ρ K c 7 (by rfl) (by rfl) (by decide)) ?_
  refine chain_any (loado_step m ρ K c 7 (k0_off8_eq c 1) (by rfl) (by decide)) fun _ => ?_
  refine chain (store_step m ρ K c 7 (k0_off8_eq c 1) (by rfl) (by rfl) inb_S304x512_S48x512_208_0 (sum_eq _ _) (by decide)) ?_
  refine chain (xrecv_step m ρ K c 8 (by rfl) (by rfl)) ?_
  refine chain (loadx_step m ρ K c) ?_
  refine chain (loadr_step m ρ K c 8 (by rfl) (by rfl) (by decide)) ?_
  exact finish c (by rfl)

theorem part13 (v2 v8 v10 : BitVec 32) (w : FVec F S48x512 .f32)
    (hw : w = k0_pay9 (F := F) ((xM.access (Rect.unit (s := S512x512) (k0_off14 c) S48x512.size (k0_off14_inb c))).read (Elt F) (X m ρ c))
        ((rM.access (Rect.unit (s := S304x512) ![256, 0] S48x512.size inb_S304x512_S48x512_256_0)).read (Elt F) (landed m ρ c))) :
    Runs c (St m ρ K c 9 0 9 8 7 0 0)
      (k0_part13 (F := F) xM (Memref.isWhole_whole _) oM (Memref.isWhole_whole _) rM (Memref.isWhole_whole _) cc0_scratch1 cc0_scratch2 cc0_scratch3 cc0_scratch4 c v2 v8 v10 w)
      any (St m ρ K c 9 0 9 9 7 0 3) := by
  intro Kt
  rw [k0_part13_eq_skeleton]; unfold k0_part13_skel
  simp only [Prog.lift, Prog.bind_op, Prog.bind_ret, Prog.pure_eq_ret]
  refine chain_any (loado_step m ρ K c 8 (k0_off14_eq c) (by rfl) (by decide)) fun _ => ?_
  refine chain (store_step m ρ K c 8 (k0_off14_eq c) (by rfl) (by rfl) inb_S304x512_S48x512_256_0 (by subst hw; exact sum_eq _ _) (by decide)) ?_
  refine chain (yrecv_step m ρ K c 0 (by rfl) (by rfl)) ?_
  refine chain (yrecv_step m ρ K c 1 (by rfl) (by rfl)) ?_
  refine chain (yrecv_step m ρ K c 2 (by rfl) (by rfl)) ?_
  exact finish c trivial

theorem part14 (v2 v8 v10 : BitVec 32) :
    Runs c (St m ρ K c 9 0 9 9 7 0 3)
      (k0_part14 (F := F) xM (Memref.isWhole_whole _) oM (Memref.isWhole_whole _) rM (Memref.isWhole_whole _) cc0_scratch1 cc0_scratch2 cc0_scratch3 cc0_scratch4 c v2 v8 v10)
      any (St m ρ K c 9 0 9 9 7 0 6) := by
  intro Kt
  rw [k0_part14_eq_skeleton]; unfold k0_part14_skel
  simp only [Prog.lift, Prog.bind_op, Prog.bind_ret, Prog.pure_eq_ret]
  refine chain (yrecv_step m ρ K c 3 (by rfl) (by rfl)) ?_
  refine chain (yrecv_step m ρ K c 4 (by rfl) (by rfl)) ?_
  refine chain (yrecv_step m ρ K c 5 (by rfl) (by rfl)) ?_
  exact finish c trivial

theorem part15 (v2 v8 v10 v : BitVec 32) :
    Runs c (St m ρ K c 9 0 9 9 7 0 6)
      (k0_part15 (F := F) xM (Memref.isWhole_whole _) oM (Memref.isWhole_whole _) rM (Memref.isWhole_whole _) cc0_scratch1 cc0_scratch2 cc0_scratch3 cc0_scratch4 c v2 v8 v10 v)
      any (St m ρ K c 9 4 9 9 7 0 7) := by
  intro Kt
  rw [k0_part15_eq_skeleton]; unfold k0_part15_skel
  simp only [Prog.lift, Prog.bind_op, Prog.bind_ret, Prog.pure_eq_ret]
  refine chain (yrecv_step m ρ K c 6 (by rfl) (by rfl)) ?_
  refine chain (xgone_step m ρ K c 0 (by rfl) (by rfl)) ?_
  refine chain (xgone_step m ρ K c 1 (by rfl) (by rfl)) ?_
  refine chain (xgone_step m ρ K c 2 (by rfl) (by rfl)) ?_
  refine chain (xgone_step m ρ K c 3 (by rfl) (by rfl)) ?_
  exact finish c trivial

theorem part16  :
    Runs c (St m ρ K c 9 4 9 9 7 0 7)
      (k0_part16 (F := F) xM (Memref.isWhole_whole _) oM (Memref.isWhole_whole _) rM (Memref.isWhole_whole _) cc0_scratch1 cc0_scratch2 cc0_scratch3 cc0_scratch4 c )
      any (St m ρ K c 9 9 9 9 7 0 7) := by
  intro Kt
  rw [k0_part16_eq_skeleton]; unfold k0_part16_skel
  simp only [Prog.lift, Prog.bind_op, Prog.bind_ret, Prog.pure_eq_ret]
  refine chain (xgone_step m ρ K c 4 (by rfl) (by rfl)) ?_
  refine chain (xgone_step m ρ K c 5 (by rfl) (by rfl)) ?_
  refine chain (xgone_step m ρ K c 6 (by rfl) (by rfl)) ?_
  refine chain (xgone_step m ρ K c 7 (by rfl) (by rfl)) ?_
  refine chain (xgone_step m ρ K c 8 (by rfl) (by rfl)) ?_
  exact finish c trivial

theorem part17  :
    Runs c (St m ρ K c 9 9 9 9 7 0 7)
      (k0_part17 (F := F) xM (Memref.isWhole_whole _) oM (Memref.isWhole_whole _) rM (Memref.isWhole_whole _) cc0_scratch1 cc0_scratch2 cc0_scratch3 cc0_scratch4 c )
      any (St m ρ K c 9 9 9 9 7 6 7) := by
  intro Kt
  rw [k0_part17_eq_skeleton]; unfold k0_part17_skel
  simp only [Prog.lift, Prog.bind_op, Prog.bind_ret, Prog.pure_eq_ret]
  refine chain (ygone_step m ρ K c 0 (by rfl) (by rfl)) ?_
  refine chain (ygone_step m ρ K c 1 (by rfl) (by rfl)) ?_
  refine chain (ygone_step m ρ K c 2 (by rfl) (by rfl)) ?_
  refine chain (ygone_step m ρ K c 3 (by rfl) (by rfl)) ?_
  refine chain (ygone_step m ρ K c 4 (by rfl) (by rfl)) ?_
  refine chain (ygone_step m ρ K c 5 (by rfl) (by rfl)) ?_
  exact finish c trivial

/-! ## The first part: the barrier -/

/-- What a chunk across `x` brings along before the partner's landing rows come with the barrier. -/
def xs₀ (c : Dev nD) (i : Fin 9) : sProp (MT nD τ sig Unit (Elt F) ℕ UU ℕ) := iprop(tok c (xs i) ∗ tok (xp c) (xr i) ∗ pos c (xs i) ∗ xPc m ρ c i fullShare.left)
/-- The same across `y`. -/
def ys₀ (c : Dev nD) (j : Fin 7) : sProp (MT nD τ sig Unit (Elt F) ℕ UU ℕ) := iprop(tok c (ys j) ∗ tok (yp c) (yr j) ∗ pos c (ys j))

theorem xs_ready : iprop(bigSep Finset.univ (xs₀ m ρ c) ∗ bigSep Finset.univ fun i : Fin 9 => landAny (xp c) i) ⊢ bigSep Finset.univ (xsA m ρ c) := by
  rw [← bigSep_sep']
  refine bigSep_mono fun i _ => ?_
  show iprop(xs₀ m ρ c i ∗ landAny (xp c) i) ⊢ xsA m ρ c i
  unfold xs₀ xsA
  iintro ⟨⟨H1, H2, H3, H4⟩, H5⟩
  isplitl [H1]; · iexact H1
  isplitl [H2]; · iexact H2
  isplitl [H3]; · iexact H3
  isplitl [H4] <;> iassumption
theorem ys_ready : iprop(bigSep Finset.univ (ys₀ (F := F) c) ∗ bigSep Finset.univ fun j : Fin 7 => outAny (yp c) (yb c) (up j)) ⊢ bigSep Finset.univ (ysA c) := by
  rw [← bigSep_sep']
  refine bigSep_mono fun j _ => ?_
  show iprop(ys₀ c j ∗ outAny (yp c) (yb c) (up j)) ⊢ ysA c j
  unfold ys₀ ysA
  iintro ⟨⟨H1, H2, H3⟩, H4⟩
  isplitl [H1]; · iexact H1
  isplitl [H2]; · iexact H2
  isplitl [H3] <;> iassumption

/-- Device `c` as its body starts. -/
def Before (K : Dev nD × Port → ℕ) (c : Dev nD) : sProp (MT nD τ sig Unit (Elt F) ℕ UU ℕ) :=
  iprop(records m ρ K ∗ levAts L lv ∗ (∃ W, owes (c : Thread nD τ) (O₀ c) W)
    ∗ (pos c bar ∗ cred (tallyAt (cell c bar) () 2) ∗ dutyTok ER (cell (xp c) bar) 0 false ∗ dutyTok ER (cell (yp c) bar) 0 true)
    ∗ (bigSep Finset.univ fun i : Fin 9 => landAny c i) ∗ (bigSep Finset.univ fun j : Fin 7 => outAny c (yb (yp c)) (up j))
    ∗ kept m ρ c ∗ bigSep Finset.univ (xs₀ m ρ c) ∗ bigSep Finset.univ (xrA c) ∗ bigSep Finset.univ (sumA c)
    ∗ bigSep Finset.univ (ys₀ c) ∗ bigSep Finset.univ (yrA c))

theorem mem_bar (d : Bool) : d ∈ (Rd m ρ).duties (cell c bar) 0 := by rw [Rd_duties]; exact Finset.mem_univ _
/-- What a device hands over with its units: its landing buffer, and the result rows its partner will sum. -/
theorem pay_bar_x : (bigSep Finset.univ fun i : Fin 9 => landAny (F := F) c i) = (Rd m ρ).payload (cell (xp c) bar) 0 false := by
  rw [Rd_payload, show pay m ρ (xp c) false bar = bigSep Finset.univ fun i : Fin 9 => landAny (xp (xp c)) i from rfl, xp_xp]
theorem pay_bar_y : (bigSep Finset.univ fun j : Fin 7 => outAny (F := F) c (yb (yp c)) (up j)) = (Rd m ρ).payload (cell (yp c) bar) 0 true := by
  rw [Rd_payload, show pay m ρ (yp c) true bar = bigSep Finset.univ fun j : Fin 7 => outAny (yp (yp c)) (yb (yp c)) (up j) from rfl, yp_yp]

theorem part1 :
    Runs c (Before m ρ K c)
      (k0_part1 xM (Memref.isWhole_whole _) oM (Memref.isWhole_whole _) rM (Memref.isWhole_whole _) cc0_scratch1 cc0_scratch2 cc0_scratch3 cc0_scratch4)
      (fun v => v.1 = c) (St m ρ K c 0 0 0 0 0 0 0) := by
  intro Kt
  rw [k0_part1_eq_skeleton]; unfold k0_part1_skel
  unfold WP
  simp only [semSignalWord, semWaitWord, Prog.lift, Prog.bind_op, Prog.bind_ret, Prog.pure_eq_ret, wp_deviceId]
  rw [show (⟨k0_dev1 c, k0_dev1_lt c⟩ : Dev nD) = xp c from dev_x (k0_dev1_eq c), show (⟨k0_dev2 c, k0_dev2_lt c⟩ : Dev nD) = yp c from dev_y (k0_dev2_eq c)]
  unfold Before
  iintro ⟨#HR, #Hlev, ⟨%W, HO⟩, ⟨Hat, Hc, HtX, HtY⟩, Hland, Hout, Hkept, Hxs, Hxr, Hsum, Hys, Hyr⟩ Hgo
  ihave #HIx := (records_inv m ρ K (xp c) bar) $$ HR
  ihave #HIy := (records_inv m ρ K (yp c) bar) $$ HR
  ihave #HI := (records_inv m ρ K c bar) $$ HR
  ihave #Hrx := (records_reached m ρ K (xp c) bar) $$ HR
  ihave #Hry := (records_reached m ρ K (yp c) bar) $$ HR
  iapply (Rounds.wp_signal 𝒱₀ ER (Rd m ρ) (c : Thread nD τ) none (dst := (xp c : Thread nD τ)) (κ := K (xp c, bar))
      (d := false) (mem_bar m ρ (xp c) false) ((Rd_amount m ρ (xp c) bar false).trans (by decide)) () (O₁ c) rfl)
    $$ [HO HtX Hland]
  · isplitr; · iexact HIx
    isplitl [HO]; · iexact HO
    isplitl [HtX]; · iexact HtX
    isplitl [Hland]
    · iapply (Entails.of_eq (pay_bar_x m ρ c)); iexact Hland
    iexact Hrx
  iintro HO
  unfold O₁
  iapply (Rounds.wp_signal 𝒱₀ ER (Rd m ρ) (c : Thread nD τ) none (dst := (yp c : Thread nD τ)) (κ := K (yp c, bar))
      (d := true) (mem_bar m ρ (yp c) true) ((Rd_amount m ρ (yp c) bar true).trans (by decide)) () (owed c 0 0) rfl)
    $$ [HO HtY Hout]
  · isplitr; · iexact HIy
    isplitl [HO]; · iexact HO
    isplitl [HtY]; · iexact HtY
    isplitl [Hout]
    · iapply (Entails.of_eq (pay_bar_y m ρ c)); iexact Hout
    iexact Hry
  iintro HO
  iapply (Rounds.wp_wait_rest_token 𝒱₀ ER (Rd m ρ) (c : Thread nD τ) none (κ := K (c, bar))
      (wpE_semWait_eq 𝒱₀ (c : Thread nD τ) none Set.univ) (Set.mem_univ _) () (O := owed c 0 0) (W := W) (R := 0) (m := 0) (T := ∅)
      ((show 0 + (2#32).toNat = 2 by decide).trans (Rd_expect_bar m ρ c).symm)) $$ [Hc HO Hat]
  · isplitr; · iexact HI
    isplitl [Hc]; · iexact Hc
    isplitl [HO]; · iexact HO
    isplitr; · iapply (mayWait_owed c bar 0 0 (fun _ => Nat.lt_succ_self 1) (fun _ => by decide)); iexact Hlev
    iexact Hat
  iintro ⟨HO, Hat, -, Hpay⟩
  ihave Hp := (Entails.of_eq (Rd_rest_bar m ρ c)) $$ Hpay
  icases Hp with ⟨Hl, Ho⟩
  imod (Rounds.cell_close ER (Rd m ρ) (Set.mem_univ (K (c, bar))) (fun h => h) (R := 0 + 1) (Rd_later m ρ (cell c bar))) $$ [Hat] with Hz
  · isplitr; · iexact HI
    iexact Hat
  rw [wp_ret]; imodintro
  iapply Hgo
  · ipureintro; rfl
  unfold St
  rw [fam_start, fam_start, fam_start, fam_start, fam_start]
  isplitr; · iexact HR
  isplitr; · iexact Hlev
  isplitl [HO]; · iexists _; iexact HO
  isplitl [Hz Hkept]; · isplitl [Hz] <;> iassumption
  isplitl [Hxs Hl]; · iapply (xs_ready m ρ c); isplitl [Hxs] <;> iassumption
  isplitl [Hxr]; · iexact Hxr
  isplitl [Hsum]; · iexact Hsum
  isplitl [Hys Ho]; · iapply (ys_ready c); isplitl [Hys] <;> iassumption
  iexact Hyr

/-! ## The whole body -/

theorem body_runs :
    Runs c (Before m ρ K c)
      (cc0_body xM (Memref.isWhole_whole _) oM (Memref.isWhole_whole _) rM (Memref.isWhole_whole _) cc0_scratch1 cc0_scratch2 cc0_scratch3 cc0_scratch4)
      any (St m ρ K c 9 9 9 9 7 7 7) := by
  rw [cc0_body_eq_skeleton]; unfold cc0_body_skel
  refine (part1 m ρ K c).bind ?_
  rintro ⟨d0, v2, v5, v8, v9, v10, v11, v13, v28⟩ rfl
  refine (part2 m ρ K d0 _ _ _ _ _).bind fun _ _ => ?_
  refine (part3 m ρ K d0 _ _ _ _).bind fun _ _ => ?_
  refine (part4 m ρ K d0 _ _ _ _ _).bind fun _ _ => ?_
  refine (part5 m ρ K d0 _ _ _ _ _).bind ?_
  rintro ⟨v154, v159⟩ h5
  refine (part6 m ρ K d0 _ _ _ _ _ _ _ _ h5).bind fun _ _ => ?_
  refine (part7 m ρ K d0 _ _ _ _ _ _).bind fun _ _ => ?_
  refine (part8 m ρ K d0 _ _ _ _ _ _ _).bind ?_
  rintro ⟨v255, v256⟩ -
  refine (part9 m ρ K d0 _ _ _ _ _ _ _ _).bind fun _ _ => ?_
  refine (part10 m ρ K d0 _ _ _ _ _ _).bind fun _ _ => ?_
  refine (part11 m ρ K d0 _ _ _ _ _ _).bind ?_
  rintro ⟨v354, z⟩ -
  refine (part12 m ρ K d0 _ _ _ _ _ _ _).bind fun v387 h12 => ?_
  refine (part13 m ρ K d0 _ _ _ _ h12).bind fun _ _ => ?_
  refine (part14 m ρ K d0 _ _ _).bind fun _ _ => ?_
  refine (part15 m ρ K d0 _ _ _ _).bind fun _ _ => ?_
  refine (part16 m ρ K d0).bind fun _ _ => ?_
  refine (part17 m ρ K d0).bind fun _ _ => ?_
  intro Kt
  simp only [Prog.lift, Prog.bind_op, Prog.bind_ret, Prog.pure_eq_ret]
  refine chain (ygone_step m ρ K d0 6 (by rfl) (by rfl)) ?_
  exact finish d0 trivial

end Parts

end Cert.Exchange

end
-- ==== Proof.Edges.lean ====
/-
Into the body and out of it: the buffers and ghost pieces a device holds at launch make up the state its body
starts from, and the state its body ends in makes up whole buffers and closed semaphores again.
-/
module

public import proofs.«01_k».proof.Proof.Body

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## One item per port -/

/-- A family over all transfer ports, kind by kind. -/
theorem over_dports (Φ : DPort → sProp (MT nD τ sig Unit (Elt F) ℕ UU ℕ)) :
    bigSep Finset.univ Φ = iprop((bigSep Finset.univ fun i : Fin 9 => Φ (.inl i)) ∗ (bigSep Finset.univ fun i : Fin 9 => Φ (.inr (.inl i)))
      ∗ (bigSep Finset.univ fun j : Fin 7 => Φ (.inr (.inr (.inl j)))) ∗ bigSep Finset.univ fun j : Fin 7 => Φ (.inr (.inr (.inr j)))) := by
  rw [bigSep_univ_sum, bigSep_univ_sum, bigSep_univ_sum]; rfl
/-- A family over all ports. -/
theorem over_ports (Φ : Port → sProp (MT nD τ sig Unit (Elt F) ℕ UU ℕ)) :
    bigSep Finset.univ Φ = iprop(Φ bar ∗ bigSep Finset.univ fun p : DPort => Φ (.inr p)) := by
  rw [bigSep_univ_sum, bigSep_univ_of_subsingleton ()]; rfl
/-- Nine items, the first seven apart. -/
theorem seven_two (Φ : Fin 9 → sProp (MT nD τ sig Unit (Elt F) ℕ UU ℕ)) :
    bigSep Finset.univ Φ = iprop((bigSep Finset.univ fun j : Fin 7 => Φ (up j)) ∗ bigSep Finset.univ fun k : Fin 2 => Φ (Fin.natAdd 7 k)) := by
  rw [bigSep_univ_equiv (finSumFinEquiv (m := 7) (n := 2)), bigSep_univ_sum]; rfl

/-! ## Buffers in pieces -/

section Pieces
variable (c : Dev nD)

/-- Entailment both ways is equality. -/
theorem both_ways {P Q : sProp (MT nD τ sig Unit (Elt F) ℕ UU ℕ)} (h : P ⊣⊢ Q) : P = Q := equiv_iff.mp ⟨h.mp, h.mpr⟩
theorem swap3 (A B C : sProp (MT nD τ sig Unit (Elt F) ℕ UU ℕ)) : iprop((A ∗ B) ∗ C) = iprop(A ∗ C ∗ B) := by
  refine both_ways ⟨?_, ?_⟩
  · show iprop((A ∗ B) ∗ C) ⊢ iprop(A ∗ C ∗ B)
    iintro ⟨⟨H1, H2⟩, H3⟩
    isplitl [H1]; · iexact H1
    isplitl [H3] <;> iassumption
  · show iprop(A ∗ C ∗ B) ⊢ iprop((A ∗ B) ∗ C)
    iintro ⟨H1, H3, H2⟩
    isplitl [H1 H2]
    · isplitl [H1] <;> iassumption
    iexact H3

theorem scratch_pieces (f : Buf (Elt F) (rLoc c)) :
    (rLoc c ↦{fullShare} f : sProp 𝕄) = bigSep Finset.univ fun i : Fin 9 => rLoc c ↦[landSet i]{fullShare} f := by
  have h := pointsTo_biUnion (Ix := Unit) (Name := ℕ) (U := UU) (Lvl := ℕ) (ℓ := rLoc c) (q := fullShare) (f := f) Finset.univ landSet
    fun i _ j _ h => land_disjoint i j h
  rw [← h]
  exact congrArg (fun S => (rLoc c ↦[S]{fullShare} f : sProp 𝕄)) land_cover.symm

theorem out_pieces (f : Buf (Elt F) (oLoc c)) :
    (oLoc c ↦{fullShare} f : sProp 𝕄) = iprop((bigSep Finset.univ fun i : Fin 9 => oLoc c ↦[srcSet (yb c) i]{fullShare} f)
      ∗ bigSep Finset.univ fun j : Fin 7 => oLoc c ↦[srcSet (yb (yp c)) (up j)]{fullShare} f) := by
  have h1 := pointsTo_biUnion (Ix := Unit) (Name := ℕ) (U := UU) (Lvl := ℕ) (ℓ := oLoc c) (q := fullShare) (f := f) Finset.univ (fun i : Fin 9 => srcSet (yb c) i)
    fun i _ j _ h => src_disjoint _ i j h
  have h2 := pointsTo_biUnion (Ix := Unit) (Name := ℕ) (U := UU) (Lvl := ℕ) (ℓ := oLoc c) (q := fullShare) (f := f) Finset.univ
    (fun j : Fin 7 => srcSet (yb (yp c)) (up j)) fun i _ j _ h => given_disjoint _ i j h
  rw [← h1, ← h2]
  refine Eq.trans ?_ (both_ways (pointsTo_union (ℓ := oLoc c) ((Finset.disjoint_biUnion_left _ _ _).mpr fun i _ =>
    (Finset.disjoint_biUnion_right _ _ _).mpr fun j _ => cross_disjoint (yb c) (yb (yp c)) (yb_yp c) i j)))
  exact congrArg (fun S => (oLoc c ↦[S]{fullShare} f : sProp 𝕄)) (out_cover (yb c) (yb (yp c)) (yb_yp c)).symm

theorem x_pieces : (xLoc c ↦{fullShare} X m ρ c : sProp 𝕄) = iprop((bigSep Finset.univ fun i : Fin 9 => xPc m ρ c i fullShare.left) ∗ kept m ρ c) := by
  have h1 : (xLoc c ↦{fullShare} X m ρ c : sProp 𝕄) = iprop((xLoc c ↦{fullShare.left} X m ρ c) ∗ (xLoc c ↦{fullShare.right} X m ρ c)) :=
    both_ways (pointsTo_share (PosShare.mem_left_op_right fullShare))
  have h2 : (xLoc c ↦{fullShare.left} X m ρ c : sProp 𝕄)
      = iprop((xLoc c ↦[Finset.univ.biUnion fun i : Fin 9 => srcSet (yb c) i]{fullShare.left} X m ρ c)
        ∗ (xLoc c ↦[Finset.univ \ Finset.univ.biUnion fun i : Fin 9 => srcSet (yb c) i]{fullShare.left} X m ρ c)) :=
    both_ways (pointsTo_split_subset (Finset.subset_univ _))
  have h3 := pointsTo_biUnion (Ix := Unit) (Name := ℕ) (U := UU) (Lvl := ℕ) (ℓ := xLoc c) (q := fullShare.left) (f := X m ρ c) Finset.univ
    (fun i : Fin 9 => srcSet (yb c) i) fun i _ j _ h => src_disjoint _ i j h
  rw [h1, h2, h3]
  unfold kept xPc
  exact swap3 _ _ _

/-- Whatever a piece of buffer holds. -/
theorem some_land (i : Fin 9) (f : Buf (Elt F) (rLoc c)) : (rLoc c ↦[landSet i]{fullShare} f : sProp 𝕄) ⊢ landAny c i := by
  unfold landAny; iintro H; iexists f; iexact H
theorem some_out (y : Fin 2) (i : Fin 9) (f : Buf (Elt F) (oLoc c)) : (oLoc c ↦[srcSet y i]{fullShare} f : sProp 𝕄) ⊢ outAny c y i := by
  unfold outAny; iintro H; iexists f; iexact H

end Pieces

/-! ## In -/

section In
variable (K : Dev nD × Port → ℕ) (c : Dev nD)

/-- The duties a device pays. -/
def payToks (c : Dev nD) : sProp (MT nD τ sig Unit (Elt F) ℕ UU ℕ) :=
  iprop((dutyTok ER (cell (xp c) bar) 0 false ∗ dutyTok ER (cell (yp c) bar) 0 true)
    ∗ (bigSep Finset.univ fun i : Fin 9 => tok c (xs i)) ∗ (bigSep Finset.univ fun i : Fin 9 => tok (xp c) (xr i))
    ∗ (bigSep Finset.univ fun j : Fin 7 => tok c (ys j)) ∗ bigSep Finset.univ fun j : Fin 7 => tok (yp c) (yr j))
/-- The credit a device is given: for what others pay it. -/
def dues (c : Dev nD) : sProp (MT nD τ sig Unit (Elt F) ℕ UU ℕ) :=
  iprop(cred (tallyAt (cell c bar) () 2) ∗ (bigSep Finset.univ fun i : Fin 9 => due c (xr i)) ∗ bigSep Finset.univ fun j : Fin 7 => due c (yr j))
/-- A device's own ghost pieces, with the cells' records. -/
def ghost (c : Dev nD) : sProp (MT nD τ sig Unit (Elt F) ℕ UU ℕ) :=
  iprop(records m ρ K ∗ (bigSep Finset.univ fun p : Port => pos c p) ∗ payToks c)

theorem enter :
    iprop((ghost m ρ K c ∗ dues c ∗ levAts L lv) ∗ (∃ f, rLoc c ↦{fullShare} f) ∗ (∃ W, owes (c : Thread nD τ) (O₀ c) W)
      ∗ (xLoc c ↦{fullShare} X m ρ c) ∗ (∃ f, oLoc c ↦{fullShare} f)) ⊢ Before m ρ K c := by
  rw [x_pieces]
  unfold ghost payToks dues Before
  rw [over_ports, over_dports]
  iintro ⟨⟨⟨HR, ⟨HpB, HpXs, HpXr, HpYs, HpYr⟩, ⟨HtX, HtY⟩, HtXs, HtXr, HtYs, HtYr⟩, ⟨HcB, HcX, HcY⟩, Hlev⟩, ⟨%fr, Hr⟩, HO, ⟨Hx, Hkept⟩, ⟨%fo, Ho⟩⟩
  ihave Hr := (Entails.of_eq (scratch_pieces c fr)) $$ Hr
  ihave Ho := (Entails.of_eq (out_pieces c fo)) $$ Ho
  icases Ho with ⟨Hown, Hgiven⟩
  isplitl [HR]; · iexact HR
  isplitl [Hlev]; · iexact Hlev
  isplitl [HO]; · iexact HO
  isplitl [HpB HcB HtX HtY]
  · isplitl [HpB]; · iexact HpB
    isplitl [HcB]; · iexact HcB
    isplitl [HtX] <;> iassumption
  isplitl [Hr]
  · iapply (show (bigSep Finset.univ fun i : Fin 9 => rLoc c ↦[landSet i]{fullShare} fr) ⊢ (bigSep Finset.univ fun i : Fin 9 => landAny c i : sProp 𝕄) from
      bigSep_mono fun i _ => some_land c i fr)
    iexact Hr
  isplitl [Hgiven]
  · iapply (show (bigSep Finset.univ fun j : Fin 7 => oLoc c ↦[srcSet (yb (yp c)) (up j)]{fullShare} fo)
        ⊢ (bigSep Finset.univ fun j : Fin 7 => outAny c (yb (yp c)) (up j) : sProp 𝕄) from
      bigSep_mono fun i _ => some_out c _ _ fo)
    iexact Hgiven
  isplitl [Hkept]; · iexact Hkept
  isplitl [HtXs HtXr HpXs Hx]
  · unfold xs₀; simp only [bigSep_sep']
    isplitl [HtXs]; · iexact HtXs
    isplitl [HtXr]; · iexact HtXr
    isplitl [HpXs] <;> iassumption
  isplitl [HcX HpXr]
  · unfold xrA; simp only [bigSep_sep']
    isplitl [HcX] <;> iassumption
  isplitl [Hown]
  · iapply (show (bigSep Finset.univ fun i : Fin 9 => oLoc c ↦[srcSet (yb c) i]{fullShare} fo)
        ⊢ (bigSep Finset.univ (sumA c) : sProp 𝕄) from
      bigSep_mono fun i _ => some_out c _ _ fo)
    iexact Hown
  isplitl [HtYs HtYr HpYs]
  · unfold ys₀; simp only [bigSep_sep']
    isplitl [HtYs]; · iexact HtYs
    isplitl [HtYr] <;> iassumption
  unfold yrA; simp only [bigSep_sep']
  isplitl [HcY] <;> iassumption

end In

/-! ## Out -/

section Out
variable (K : Dev nD × Port → ℕ) (c : Dev nD)

/-- The two sums that are not handed on. -/
theorem sums_left : fam (sumA c) (sumB m ρ c) gone 9 7 ⊢ bigSep Finset.univ fun k : Fin 2 => outPc m ρ c (yb c) (Fin.natAdd 7 k) := by
  unfold fam
  rw [seven_two]
  iintro ⟨-, H⟩
  iapply (show (bigSep Finset.univ fun k : Fin 2 => if (Fin.natAdd 7 k : Fin 9).val < 7 then (gone (Fin.natAdd 7 k : Fin 9) : sProp 𝕄)
      else if (Fin.natAdd 7 k : Fin 9).val < 9 then sumB m ρ c (Fin.natAdd 7 k) else sumA c (Fin.natAdd 7 k)) ⊢ bigSep Finset.univ fun k : Fin 2 => outPc m ρ c (yb c) (Fin.natAdd 7 k) from
    bigSep_mono fun k _ => by
      rw [if_neg (by simp [Fin.natAdd]), if_pos (Fin.natAdd 7 k).isLt]; exact BI.Entails.refl _)
  iexact H

/-- What a device holds once its body is done: its semaphores at zero, everything that landed, its block and its result. -/
theorem leave :
    St m ρ K c 9 9 9 9 7 7 7
      ⊢ iprop(((rLoc c ↦{fullShare} landed m ρ c) ∗ bigSep Finset.univ fun p : Port => zero c p) ∗ (∃ W, owes (c : Thread nD τ) 0 W)
        ∗ (xLoc c ↦{fullShare} X m ρ c) ∗ (oLoc c ↦{fullShare} outAt m ρ c)) := by
  unfold St
  rw [fam_end 9 9 le_rfl, fam_middle (A := xrA c) 9 le_rfl, fam_end (A := ysA c) 7 7 le_rfl, fam_middle (A := yrA c) 7 le_rfl, owed_none,
    x_pieces, scratch_pieces, out_pieces, over_ports, over_dports, seven_two fun i : Fin 9 => (oLoc c ↦[srcSet (yb c) i]{fullShare} outAt m ρ c : sProp 𝕄)]
  unfold xsC xrB ysC yrB
  simp only [bigSep_sep']
  iintro ⟨-, -, HO, ⟨Hb, Hk⟩, ⟨HzXs, Hx⟩, ⟨HzXr, Hr⟩, Hsum, ⟨HzYs, Hown⟩, ⟨HzYr, Hgiven⟩⟩
  ihave Hleft := (sums_left m ρ c) $$ Hsum
  isplitl [Hr Hb HzXs HzXr HzYs HzYr]
  · isplitl [Hr]; · unfold landPc; iexact Hr
    isplitl [Hb]; · iexact Hb
    isplitl [HzXs]; · iexact HzXs
    isplitl [HzXr]; · iexact HzXr
    isplitl [HzYs] <;> iassumption
  isplitl [HO]; · iexact HO
  isplitl [Hx Hk]
  · isplitl [Hx] <;> iassumption
  unfold outPc
  isplitl [Hown Hleft]
  · isplitl [Hown] <;> iassumption
  iexact Hgiven

end Out

end Cert.Exchange

end
-- ==== Proof.Launch.lean ====
/-
The launch: the ghost state is dealt to the devices, the credit each is owed is read off what the others owe, and the
whole program runs from any memory with its counters at zero, leaving the input as it was and the result computed.
-/
module

public import proofs.«01_k».proof.Proof.Edges
public import Idealize.ShloMosaic.Lib.Pipeline.CollectiveSegs

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data: one grid point -/

theorem one_point : cfg0.N = 1 := by decide
def pt : Fin cfg0.N := ⟨0, by rw [one_point]; exact Nat.one_pos⟩
theorem eq_pt (t : Fin cfg0.N) : t = pt := by
  apply Fin.ext
  have h1 := t.isLt
  have h2 := one_point
  show t.val = 0
  omega

/-- What a device's body starts from, its buffers apart. -/
def start (c : Dev nD) : sProp (MT nD τ sig Unit (Elt F) ℕ UU ℕ) := iprop((∃ K, ghost m ρ K c) ∗ dues c ∗ levAts L lv)
def Φ₀ (c : Dev nD) : sProp (MT nD τ sig Unit (Elt F) ℕ UU ℕ) := iprop(start m ρ c ∗ ∃ f, rLoc c ↦{fullShare} f)
/-- What is left after it: the landing buffer, and every semaphore at zero. -/
def Φ₁ (c : Dev nD) : sProp (MT nD τ sig Unit (Elt F) ℕ UU ℕ) :=
  iprop((rLoc c ↦{fullShare} landed m ρ c) ∗ bigSep Finset.univ fun p : Port => zero c p)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => X m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem full_share (c : Dev nD) (w : Fin cfg0.W) : (dats m ρ 0 c).share w = fullShare := by
  unfold Dat.share; split <;> rfl

/-! ## The body -/

/-- A whole buffer, as the pipeline hands it to the body. -/
abbrev held (c : Dev nD) (b : Ref sig .tc) (Y : b.ty.Contents (Elt F)) : sProp (MT nD τ sig Unit (Elt F) ℕ UU ℕ) :=
  owns (c : Thread nD τ) (Memref.whole b) fullShare Y
theorem held_eq (c : Dev nD) (b : Ref sig .tc) (Y : b.ty.Contents (Elt F)) :
    held c b Y = iprop(∃ f : Buf (Elt F) ((c : Thread nD τ).loc b), ⌜f = Y⌝ ∗ ((c : Thread nD τ).loc b ↦{fullShare} f)) := by
  unfold held owns; simp only [Memref.view_whole, View.read_whole, View.set_whole]
theorem held_x (c : Dev nD) (Y : (cc0_stg0_0 : Ref sig .tc).ty.Contents (Elt F)) :
    held c cc0_stg0_0 Y ⊣⊢ (xLoc c ↦{fullShare} Y : sProp 𝕄) := by
  rw [held_eq]
  refine ⟨?_, ?_⟩
  · show iprop(∃ f : Buf (Elt F) ((c : Thread nD τ).loc cc0_stg0_0), ⌜f = Y⌝ ∗ ((c : Thread nD τ).loc cc0_stg0_0 ↦{fullShare} f)) ⊢ (xLoc c ↦{fullShare} Y : sProp 𝕄)
    iintro ⟨%f, %h, H⟩; subst h; iexact H
  · show (xLoc c ↦{fullShare} Y : sProp 𝕄) ⊢ iprop(∃ f : Buf (Elt F) ((c : Thread nD τ).loc cc0_stg0_0), ⌜f = Y⌝ ∗ ((c : Thread nD τ).loc cc0_stg0_0 ↦{fullShare} f))
    iintro H; iexists Y
    isplitr; · ipureintro; rfl
    iexact H
theorem held_o (c : Dev nD) (Y : (cc0_stg1_0 : Ref sig .tc).ty.Contents (Elt F)) :
    held c cc0_stg1_0 Y ⊣⊢ (oLoc c ↦{fullShare} Y : sProp 𝕄) := by
  rw [held_eq]
  refine ⟨?_, ?_⟩
  · show iprop(∃ f : Buf (Elt F) ((c : Thread nD τ).loc cc0_stg1_0), ⌜f = Y⌝ ∗ ((c : Thread nD τ).loc cc0_stg1_0 ↦{fullShare} f)) ⊢ (oLoc c ↦{fullShare} Y : sProp 𝕄)
    iintro ⟨%f, %h, H⟩; subst h; iexact H
  · show (oLoc c ↦{fullShare} Y : sProp 𝕄) ⊢ iprop(∃ f : Buf (Elt F) ((c : Thread nD τ).loc cc0_stg1_0), ⌜f = Y⌝ ∗ ((c : Thread nD τ).loc cc0_stg1_0 ↦{fullShare} f))
    iintro H; iexists Y
    isplitr; · ipureintro; rfl
    iexact H

theorem before_x (c : Dev nD) (d) : (dats m ρ 0 c).before (0 : Fin 2) pt d = X m ρ c := by
  unfold Dat.before; rw [if_pos (show (cfg0.win (0 : Fin 2)).fetch pt = true from rfl)]; rfl

set_option maxRecDepth 8000 in
theorem body_obligation (c : Dev nD) : BodyObligation (dats (F := F) m ρ 0 c) (defs₀ (F := F)) 𝒱₀ () Set.univ := fun t => by
  rw [eq_pt t, bigSep_W0, bigSep_W0]
  show iprop(Φ₀ m ρ c ∗ (dats m ρ 0 c).owesAt () pt.castSucc
      ∗ (∃ d, held c cc0_stg0_0 ((dats m ρ 0 c).before (0 : Fin 2) pt d))
      ∗ (∃ d, held c cc0_stg1_0 ((dats m ρ 0 c).before (1 : Fin 2) pt d)))
    ⊢ WP c (cc0_body xM (Memref.isWhole_whole _) oM (Memref.isWhole_whole _) rM (Memref.isWhole_whole _) cc0_scratch1 cc0_scratch2 cc0_scratch3 cc0_scratch4)
      (fun _ => iprop(Φ₁ m ρ c ∗ (dats m ρ 0 c).owesAt () pt.succ ∗ held c cc0_stg0_0 (X m ρ c) ∗ held c cc0_stg1_0 (outAt m ρ c)))
  unfold Φ₀ start Dat.owesAt Pipeline.owesWithin
  rw [show (dats m ρ 0 c).owed pt.castSucc = O₀ c from rfl, show (dats m ρ 0 c).owed pt.succ = 0 from rfl]
  iintro ⟨⟨⟨⟨%K, Hg⟩, Hd, Hl⟩, Hr⟩, ⟨%W, -, HO⟩, ⟨%d0, Hx⟩, ⟨%d1, Ho⟩⟩
  rw [before_x]
  ihave Hx := (held_x c (X m ρ c)).mp $$ Hx
  ihave Ho := (held_o c ((dats m ρ 0 c).before (1 : Fin 2) pt d1)).mp $$ Ho
  ihave Hin := (enter m ρ K c) $$ [Hg Hd Hl Hr HO Hx Ho]
  · isplitl [Hg Hd Hl]
    · isplitl [Hg]; · iexact Hg
      isplitl [Hd] <;> iassumption
    isplitl [Hr]; · iexact Hr
    isplitl [HO]; · iexists W; iexact HO
    isplitl [Hx]; · iexact Hx
    iexists _; iexact Ho
  iapply (body_runs m ρ K c _) $$ Hin
  iintro %v - Hout
  ihave Hout := (leave m ρ K c) $$ Hout
  icases Hout with ⟨HΦ, ⟨%W', HO⟩, Hx, Ho⟩
  isplitl [HΦ]; · unfold Φ₁; iexact HΦ
  isplitl [HO]
  · iexists W'
    isplitr; · ipureintro; exact fun _ _ => Or.inl trivial
    iexact HO
  isplitl [Hx]; · iapply (held_x c (X m ρ c)).mpr; iexact Hx
  iapply (held_o c (outAt m ρ c)).mpr; iexact Ho

/-! ## The ghost state, dealt -/

abbrev osem : DPort → SemLoc sig := fun p => .dma (dsem p)
theorem ownSemFacts : Pipeline.OwnSemFacts cfg0.spec osem := by decide

def kcells : Finset (GSem nD τ sig) := Finset.univ.map ⟨kcell, kcell_injective⟩
/-- The duties, one per port of each device, and the barriers' second ones. -/
abbrev dutyOf (ct : Dev nD × (Port ⊕ Unit)) : GSem nD τ sig × ℕ × Bool :=
  match ct.2 with
  | .inl p => (cell ct.1 p, 0, false)
  | .inr _ => (cell ct.1 bar, 0, true)
theorem dutyOf_injective : Function.Injective dutyOf := by
  rintro ⟨c, p | _⟩ ⟨c', p' | _⟩ h
  · obtain ⟨h1, h2⟩ := cell_eq_iff.mp (congrArg Prod.fst h)
    exact Prod.ext h1 (congrArg Sum.inl h2)
  · exact absurd (congrArg (fun x => x.2.2) h) Bool.false_ne_true
  · exact absurd (congrArg (fun x => x.2.2) h).symm Bool.false_ne_true
  · exact Prod.ext (cell_eq_iff.mp (congrArg Prod.fst h)).1 rfl
def kduties : Finset (GSem nD τ sig × ℕ × Bool) := Finset.univ.map ⟨dutyOf, dutyOf_injective⟩

def u₀ : UU := (initOf (Pipeline.cells cfgs cellOf_inj) (Pipeline.launchToks cfgs cellOf_inj), initOf kcells kduties)

/-- The duties of a device's own cells. -/
def ownToks (c : Dev nD) : sProp (MT nD τ sig Unit (Elt F) ℕ UU ℕ) :=
  iprop((bigSep Finset.univ fun p : Port => tok c p) ∗ dutyTok ER (cell c bar) 0 true)
/-- What each device is dealt of its own cells. -/
def G (c : Dev nD) : sProp (MT nD τ sig Unit (Elt F) ℕ UU ℕ) :=
  iprop((bigSep Finset.univ fun p : Port => roundState ER (Rd m ρ) (cell c p) 0)
    ∗ (bigSep Finset.univ fun p : Port => pos c p) ∗ (bigSep Finset.univ fun p : Port => reached ER (cell c p) 0) ∗ ownToks c)
def G' (c : Dev nD) : sProp (MT nD τ sig Unit (Elt F) ℕ UU ℕ) := iprop(∃ K, ghost m ρ K c)

theorem over_kcells (Φ : GSem nD τ sig → sProp (MT nD τ sig Unit (Elt F) ℕ UU ℕ)) :
    bigSep kcells Φ = bigSep Finset.univ fun c : Dev nD => bigSep Finset.univ fun p : Port => Φ (cell c p) := by
  unfold kcells; rw [bigSep_map, bigSep_univ_prod]; rfl
theorem over_kduties :
    bigSep kduties (fun x => (dutyTok ER x.1 x.2.1 x.2.2 : sProp 𝕄)) = bigSep Finset.univ fun c : Dev nD => ownToks c := by
  unfold kduties
  rw [bigSep_map, bigSep_univ_prod]
  refine bigSep_congr fun c _ => ?_
  rw [bigSep_univ_sum, bigSep_univ_of_subsingleton (I := Unit) ()]
  rfl

theorem deal : BI.own (ER (initOf kcells kduties)) ⊢ (|==> bigSep Finset.univ (G m ρ) : sProp 𝕄) := by
  iintro H
  imod (Rounds.fund ER (Rd m ρ) kcells kduties) $$ H with ⟨Hst, Hre, Hat, Htk⟩
  imodintro
  ihave Hst := (Entails.of_eq (over_kcells fun g => roundState ER (Rd m ρ) g 0)) $$ Hst
  ihave Hat := (Entails.of_eq (over_kcells fun g => atPos ER g 0 ∅ 0)) $$ Hat
  ihave Hre := (Entails.of_eq (over_kcells fun g => reached ER g 0)) $$ Hre
  ihave Htk := (Entails.of_eq (over_kduties (F := F))) $$ Htk
  unfold G; simp only [bigSep_sep']
  isplitl [Hst]; · iexact Hst
  isplitl [Hat]; · iexact Hat
  isplitl [Hre] <;> iassumption

theorem barrier_zero (c : Dev nD) : (unscopedSems0 c : sProp 𝕄) = zero c bar := by
  unfold unscopedSems0; rw [bigSep_eq_bigSepL_of_eq [SemLoc.reg barS] (by decide) (by decide)]; rfl
/-- A device's semaphores, all at zero. -/
theorem all_zero (c : Dev nD) :
    (bigSep Finset.univ fun p : Port => (zero c p : sProp 𝕄))
      = iprop(unscopedSems0 c ∗ Pipeline.ownSems0 (Ix := Unit) (Name := ℕ) (U := UU) (Lvl := ℕ) (Val := Elt F) (τ := τ) osem c) := by
  rw [over_ports, barrier_zero]; rfl

theorem alloc_cell (c : Dev nD) (p : Port) :
    iprop(zero c p ∗ roundState ER (Rd m ρ) (cell c p) 0) ⊢ (|={Set.univ}=> iprop(∃ κ : ℕ, cellInv ER (Rd m ρ) κ (cell c p)) : sProp 𝕄) :=
  (Rounds.body_intro ER (Rd m ρ) (cell c p)).trans inv_alloc
theorem alloc_cells (c : Dev nD) :
    iprop((bigSep Finset.univ fun p : Port => zero c p) ∗ bigSep Finset.univ fun p : Port => roundState ER (Rd m ρ) (cell c p) 0)
      ⊢ (|={Set.univ}=> bigSep Finset.univ fun p : Port => iprop(∃ κ : ℕ, cellInv ER (Rd m ρ) κ (cell c p)) : sProp 𝕄) := by
  rw [← bigSep_sep']
  exact (bigSep_mono fun p _ => alloc_cell m ρ c p).trans (bigSep_fupd _ _)

/-- A device's cells with their invariants, its positions, marks and duties. -/
def opened (c : Dev nD) : sProp (MT nD τ sig Unit (Elt F) ℕ UU ℕ) :=
  iprop((bigSep Finset.univ fun p : Port => iprop(∃ κ : ℕ, cellInv ER (Rd m ρ) κ (cell c p)))
    ∗ (bigSep Finset.univ fun p : Port => pos c p) ∗ (bigSep Finset.univ fun p : Port => reached ER (cell c p) 0) ∗ ownToks c)

theorem alloc_device (c : Dev nD) :
    iprop(Pipeline.ownSems0 (Ix := Unit) (Name := ℕ) (U := UU) (Lvl := ℕ) (Val := Elt F) (τ := τ) osem c ∗ unscopedSems0 c ∗ G m ρ c)
      ⊢ |={Set.univ}=> opened m ρ c := by
  unfold G opened
  iintro ⟨Ho, Hu, Hst, Hrest⟩
  imod (alloc_cells m ρ c) $$ [Ho Hu Hst] with HI
  · isplitr [Hst]
    · rw [all_zero]
      isplitl [Hu] <;> iassumption
    iexact Hst
  imodintro
  isplitl [HI] <;> iassumption

/-- The duties go to the devices that pay them: the partners'. -/
theorem hand_out : (bigSep Finset.univ fun c : Dev nD => (ownToks c : sProp 𝕄)) ⊢ bigSep Finset.univ fun c : Dev nD => payToks c := by
  unfold ownToks payToks
  simp only [over_ports, over_dports, bigSep_sep']
  rw [bigSep_univ_equiv xperm (fun c : Dev nD => (tok c bar : sProp 𝕄)),
    bigSep_univ_equiv yperm (fun c : Dev nD => (dutyTok ER (cell c bar) 0 true : sProp 𝕄)),
    bigSep_univ_equiv xperm (fun c : Dev nD => (bigSep Finset.univ fun i : Fin 9 => (tok c (xr i) : sProp 𝕄))),
    bigSep_univ_equiv yperm (fun c : Dev nD => (bigSep Finset.univ fun j : Fin 7 => (tok c (yr j) : sProp 𝕄)))]
  iintro ⟨⟨HB, HXs, HXr, HYs, HYr⟩, HB'⟩
  isplitl [HB HB']
  · isplitl [HB]; · iexact HB
    iexact HB'
  isplitl [HXs]; · iexact HXs
  isplitl [HXr]; · iexact HXr
  isplitl [HYs]; · iexact HYs
  iexact HYr

/-- A persistent fact goes to every member of a family. -/
theorem share_out {I : Type} [DecidableEq I] {S : Finset I} {R : sProp (MT nD τ sig Unit (Elt F) ℕ UU ℕ)} [BI.Persistent R]
    (Φ : I → sProp (MT nD τ sig Unit (Elt F) ℕ UU ℕ)) : iprop(R ∗ bigSep S Φ) ⊢ bigSep S fun i => iprop(R ∗ Φ i) := by
  rw [bigSep_sep']
  exact sep_mono_left (BI.bigSep_of_persistent S R)

theorem give (K : Dev nD × Port → ℕ) (c : Dev nD) : iprop(records m ρ K ∗ (bigSep Finset.univ fun p : Port => pos c p) ∗ payToks c) ⊢ G' m ρ c := by
  unfold G' ghost; iintro H; iexists K; iexact H

theorem spread : (bigSep Finset.univ fun c : Dev nD => opened m ρ c) ⊢ bigSep Finset.univ (G' m ρ) := by
  unfold opened
  simp only [bigSep_sep']
  rw [← bigSep_univ_prod (fun cp : Dev nD × Port => iprop(∃ κ : ℕ, cellInv ER (Rd m ρ) κ (kcell cp))),
    ← bigSep_univ_prod (fun cp : Dev nD × Port => (reached ER (kcell cp) 0 : sProp 𝕄))]
  iintro ⟨HI, Hat, #HR, Htk⟩
  ihave HK := (BI.bigSep_exists_pi Finset.univ (fun (cp : Dev nD × Port) (κ : ℕ) => (cellInv ER (Rd m ρ) κ (kcell cp) : sProp 𝕄))) $$ HI
  icases HK with ⟨%K, #HI⟩
  ihave Htk := (hand_out (F := F)) $$ Htk
  iapply (show (bigSep Finset.univ fun c : Dev nD => iprop(records m ρ K ∗ (bigSep Finset.univ fun p : Port => pos c p) ∗ payToks c))
      ⊢ bigSep Finset.univ (G' m ρ) from bigSep_mono fun c _ => give m ρ K c)
  iapply (share_out (R := records m ρ K) fun c : Dev nD => iprop((bigSep Finset.univ fun p : Port => pos c p) ∗ payToks c))
  isplitr
  · unfold records
    isplitl; · iexact HI
    iexact HR
  · rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c
      ∗ unscopedSems0 c ∗ G m ρ c) : sProp 𝕄) ⊢ |={Set.univ}=> bigSep Finset.univ (G' m ρ) :=
  ((bigSep_mono fun c _ => alloc_device m ρ c).trans (bigSep_fupd _ _)).trans (BI.fupd_mono (spread m ρ))

/-! ## The credit at launch -/

/-- What a port is paid from across `x`, and from across `y`. -/
def fromX : Port → ℕ
  | .inl _ => 1
  | .inr (.inr (.inl i)) => units (xr i)
  | _ => 0
def fromY : Port → ℕ
  | .inl _ => 1
  | .inr (.inr (.inr (.inr j))) => units (yr j)
  | _ => 0

theorem xp_iff {c d : Dev nD} : Iff (c = xp d) (d = xp c) := ⟨fun h => by rw [h, xp_xp], fun h => by rw [h, xp_xp]⟩
theorem yp_iff {c d : Dev nD} : Iff (c = yp d) (d = yp c) := ⟨fun h => by rw [h, yp_yp], fun h => by rw [h, yp_yp]⟩

/-- Of all the debts of one device, those to a given port. -/
theorem pick (A B : Prop) [Decidable A] [Decidable B] (p : Port) :
    (((∑ i : Fin 9, if A ∧ p = xr i then units (xr i) else 0) + ∑ j : Fin 7, if B ∧ p = yr j then units (yr j) else 0)
      + (if B ∧ p = bar then 1 else 0)) + (if A ∧ p = bar then 1 else 0) = (if A then fromX p else 0) + if B then fromY p else 0 := by
  by_cases hx : A <;> by_cases hy : B <;> rcases p with _ | i | i | j | j <;> simp [hx, hy, fromX, fromY]

theorem owed_at (d c : Dev nD) (p : Port) :
    O₀ d (cell c p) () = (if d = xp c then fromX p else 0) + if d = yp c then fromY p else 0 := by
  have e (d' : Dev nD) (p' : Port) (k : ℕ) : (tallyAt (cell d' p') () k : Tallies) (cell c p) () = if c = d' ∧ p = p' then k else 0 := by
    rw [tallyAt_apply]
    exact if_congr ⟨fun h => cell_eq_iff.mp h.1, fun h => ⟨cell_eq_iff.mpr h, rfl⟩⟩ rfl rfl
  unfold O₀ O₁ owed
  simp only [Pi.add_apply, Finsupp.add_apply, Finset.sum_apply, Finsupp.finset_sum_apply, Nat.zero_le, Finset.filter_true]
  rw [Finset.sum_congr rfl fun i _ => e (xp d) (xr i) _, Finset.sum_congr rfl fun j _ => e (yp d) (yr j) _, e, e]
  simp only [← xp_iff (c := c) (d := d), ← yp_iff (c := c) (d := d)]
  exact pick _ _ p

theorem launch_at (c : Dev nD) (p : Port) :
    tallyOn (cell c p) (launchCredit (Pipeline.owing O₀) 0 (cell c p)) = (tallyAt (cell c p) () (fromX p + fromY p) : Tallies) := by
  unfold tallyAt
  refine congrArg _ (Finsupp.ext fun u => ?_)
  cases u
  rw [Pipeline.launchCredit_owing, Finsupp.single_eq_same, Finset.sum_congr rfl fun d _ => owed_at d c p, Finset.sum_add_distrib,
    Finset.sum_ite_eq' Finset.univ (xp c) fun _ => fromX p, Finset.sum_ite_eq' Finset.univ (yp c) fun _ => fromY p,
    if_pos (Finset.mem_univ _), if_pos (Finset.mem_univ _)]

theorem credits (c : Dev nD) : (Pipeline.launchCred O₀ c : sProp 𝕄) ⊢ dues c := by
  have h : (Pipeline.launchCred O₀ c : sProp 𝕄) ⊢ bigSep Finset.univ fun p : Port => cred (tallyAt (cell c p) () (fromX p + fromY p)) := by
    unfold Pipeline.launchCred
    have e : (bigSep (Finset.univ.map ⟨csem, csem_injective⟩) fun sm : SemLoc sig =>
          (cred (tallyOn ((c : Thread nD τ), sm) (launchCredit (Pipeline.owing O₀) 0 ((c : Thread nD τ), sm))) : sProp 𝕄))
        = bigSep Finset.univ fun p : Port => cred (tallyAt (cell c p) () (fromX p + fromY p)) := by
      rw [bigSep_map]
      exact bigSep_congr fun p _ => congrArg cred (launch_at c p)
    rw [← e]
    exact bigSep_subset (Finset.subset_univ _)
  refine h.trans ?_
  rw [over_ports, over_dports]
  unfold dues
  iintro ⟨HB, -, HX, -, HY⟩
  isplitl [HB]; · iexact HB
  isplitl [HX]; · iexact HX
  iapply (Entails.of_eq (bigSep_congr fun j _ => by
    rw [show fromX (yr j) + fromY (yr j) = units (yr j) from Nat.zero_add _]) :
    (bigSep Finset.univ fun j : Fin 7 => (cred (tallyAt (cell c (yr j)) () (fromX (yr j) + fromY (yr j))) : sProp 𝕄)) ⊢ bigSep Finset.univ fun j : Fin 7 => due c (yr j))
  iexact HY

/-! ## The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hl, Hc, -, HG⟩
  ihave Hc := (credits (F := F) c) $$ Hc
  imodintro
  unfold start G'
  isplitl
  · isplitl [HG]; · iexact HG
    isplitl [Hc] <;> iassumption
  · iempintro

theorem at_entry (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs] <;> iassumption

theorem at_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq]
  unfold Φ₁
  rw [all_zero]
  iintro ⟨Hr, Hu, Ho⟩
  isplitl [Hu]; · iexact Hu
  isplitl [Ho]; · iexact Ho
  iexists (landed m ρ c); iexact Hr

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_stage c _ (by fin_cases w <;> fin_cases s <;> decide)
    · show _ ⊢ MayWait _ _ _ 0
      rw [MayWait_zero]; iintro -; iempintro

/-! ## The run -/

/-- What an array of the program holds at the end. -/
def finalA (c : Dev nD) (w : Fin cfg0.W) : Buf (Elt F) ((cfg0.win w).arr.view.loc (c : Thread nD τ)) := (dats m ρ 0 c).arrAt w cfg0.N
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values and from any memory with its counters at zero, every fair execution of the program on the
    sixteen devices terminates, with every array at its computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0)
    (hshare := full_share m ρ) (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (deal m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := at_entry m ρ) (hout := at_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input array ends as it began. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.Exchange

end
-- ==== Proof.Value.lean ====
/-
What the program computes over the reals: a device's block is one of the two halves of the whole array, its partner
across `x` holds the other, and its partner across `y` the same one; so every device ends with the sum of the two
halves, in either order, which is what the reference computes.
-/
module

public import proofs.«01_k».proof.Proof.Launch
public import proofs.«01_k».proof.Proof.Gen.ReferenceIdeal.Run
public import Idealize.ShloMosaic.Lib.Layout
public import Idealize.ShloMosaic.Lib.Pointwise

@[expose] public section

noncomputable section

namespace Cert.Exchange

open Cert.KernelIdeal Cert.KernelIdeal.Gen
open Idealize.ShloMosaic
open Idealize.ShloMosaic.TcCoe
open Idealize.SL.Sem

/-! ## The arrays around the region -/

section Arrays
variable {F : FTy → Type} [FloatOps F] (m : (ℓ : Loc nD τ sig) → Buf (Elt F) ℓ) (ρ : Dev nD → PrngReg)

/-- A device's block is its argument, whole. -/
theorem X_eq (c : Dev nD) : X m ρ c = m ((c : Thread nD τ).loc main_arg0) :=
  Memref.read_access_unit_zero (Elt F) main_arg0 (funext fun a => by fin_cases a <;> decide) (fun a => by fin_cases a <;> decide) _

/-- The result array, whole, ends as the body left it. -/
theorem finalA_o (c : Dev nD) : finalA m ρ c (1 : Fin 2) = outAt m ρ c := by
  have h : (win0_1.blk (0 : Fin 1)).view.read (Elt F) (finalA m ρ c (1 : Fin 2)) = outAt m ρ c := by
    unfold finalA
    rw [show cfg0.N = ((0 : Fin 1) : Fin cfg0.N).val + 1 from rfl, (dats m ρ 0 c).arrAt_succ (1 : Fin 2) (0 : Fin 1),
      show (cfg0.win (1 : Fin 2)).flush (0 : Fin 1) = true from by decide, if_pos rfl]
    exact View.read_write_univ _ _
  exact (Memref.read_access_unit_zero (Elt F) main_v1 (funext fun a => by fin_cases a <;> decide) (fun a => by fin_cases a <;> decide) _).symm.trans h

end Arrays

/-! ## Over the reals -/

/-- One of the two halves of the whole array. -/
def half (W : (⟨2, ![1024, 512]⟩ : Shape).Idx → EReal) (b : Fin 2) : S512x512.Idx → EReal :=
  fun j => W (ix2 ⟨512 * b.val + (j 0).val, by have h : (j 0).val < 512 := (j 0).isLt; have := b.isLt; omega⟩ (j 1))
/-- The sum of the halves. -/
def total (W : (⟨2, ![1024, 512]⟩ : Shape).Idx → EReal) : S512x512.Idx → EReal := fun j => half W 0 j + half W 1 j

/-- Which half a device holds. -/
def xb (c : Dev nD) : Fin 2 := (Layout.meshBlock [2, 2, 4] ![[0], []] c : (b : Fin 2) → _) 0
theorem xb_xp (c : Dev nD) : xb (xp c) = 1 - xb c := by revert c; decide
theorem xb_yp (c : Dev nD) : xb (yp c) = xb c := by revert c; decide

theorem block_half (W : (⟨2, ![1024, 512]⟩ : Shape).Idx → EReal) (c : Dev nD) :
    Layout.blockN ⟨2, ![512, 512]⟩ ⟨2, ![1024, 512]⟩ (Layout.meshBlock [2, 2, 4] ![[0], []] c) W = half W (xb c) := by
  funext j
  rw [Layout.blockN_apply]
  unfold half
  refine congrArg W (funext fun a => Fin.ext ?_)
  rw [Layout.TilesN.idx_val]
  fin_cases a
  · show (xb c).val * 512 + (j 0).val = 512 * (xb c).val + (j 0).val
    omega
  · show 0 * 512 + (j 1).val = (j 1).val
    omega

/-- The two halves in either order sum to the total. -/
theorem halves (W : (⟨2, ![1024, 512]⟩ : Shape).Idx → EReal) (b : Fin 2) (j : S512x512.Idx) : half W b j + half W (1 - b) j = total W j := by
  unfold total
  fin_cases b
  · rfl
  · exact add_comm _ _

/-- What every device ends with. -/
theorem outAt_total (m : (ℓ : Loc nD τ sig) → Buf (Elt Ideal) ℓ) (ρ : Dev nD → PrngReg) (W : (⟨2, ![1024, 512]⟩ : Shape).Idx → EReal)
    (h : ∀ c : Dev nD, m ((c : Thread nD τ).loc main_arg0) = Layout.blockN ⟨2, ![512, 512]⟩ ⟨2, ![1024, 512]⟩ (Layout.meshBlock [2, 2, 4] ![[0], []] c) W)
    (c : Dev nD) : outAt m ρ c = total W := by
  have hX (d : Dev nD) : X m ρ d = half W (xb d) := (X_eq m ρ d).trans ((h d).trans (block_half W d))
  unfold outAt
  rw [hX, hX, hX, hX, xb_xp, xb_xp, xb_yp]
  funext j
  unfold result
  rw [ite_self]
  exact halves W (xb c) j

/-- The reference's result is the sum of the halves. -/
theorem reference_total (W : (⟨2, ![1024, 512]⟩ : Shape).Idx → EReal) :
    Host.reduceAdd (F := Ideal) (φ := .f32) (shapeCast Cert.ReferenceIdeal.S2x512x512 W Cert.ReferenceIdeal.Gen.shapeCasts_S1024x512_S2x512x512)
      (constant Cert.ReferenceIdeal.S_ .f32 0x00000000#32) Cert.ReferenceIdeal.Gen.reducesTo_S2x512x512_S512x512_d0 Cert.ReferenceIdeal.Gen.h_S_
      = total W := by
  funext j
  pointwise [total, half]
  rw [Fin.sum_univ_two]
  refine congrArg₂ (· + ·) (congrArg W (funext fun a => Fin.ext ?_)) (congrArg W (funext fun a => Fin.ext ?_)) <;> fin_cases a
  · show 0 * 512 + (j 0).val = (j 0).val
    omega
  · rfl
  · show 1 * 512 + (j 0).val = 512 + (j 0).val
    omega
  · rfl

/-- The frame of the program, at either reading of its floats. -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c : Thread nD τ).loc main_arg0) = m ((c : Thread nD τ).loc main_arg0)) ∧ r.2.sem = fun _ => 0 :=
  (θ_run defs _ _).mono (fun _ h => ⟨fun c => (h.1 c (0 : Fin 2)).trans (finalA_x m ρ c), h.2⟩) (run_main m ρ)

/-- Every device ends with the sum of the whole array's halves. -/
theorem run_total (m : (ℓ : Loc nD τ sig) → Buf (Elt Ideal) ℓ) (ρ : Dev nD → PrngReg) (W : (⟨2, ![1024, 512]⟩ : Shape).Idx → EReal)
    (h : ∀ c : Dev nD, m ((c : Thread nD τ).loc main_arg0) = Layout.blockN ⟨2, ![512, 512]⟩ ⟨2, ![1024, 512]⟩ (Layout.meshBlock [2, 2, 4] ![[0], []] c) W) :
    θ_run defs (onTc (τ := τ) (main (F := Ideal))) ⟨m, fun _ => 0, ρ⟩ fun r => ∀ c : Dev nD,
      r.2.mem ((c : Thread nD τ).loc main_v1) = total W ∧ r.2.mem ((c : Thread nD τ).loc main_arg0) = m ((c : Thread nD τ).loc main_arg0) :=
  (θ_run defs _ _).mono (fun _ hr c => ⟨(hr.1 c (1 : Fin 2)).trans ((finalA_o m ρ c).trans (outAt_total m ρ W h c)),
    (hr.1 c (0 : Fin 2)).trans (finalA_x m ρ c)⟩) (run_main m ρ)

/-- The reference ends with it too, and its argument as it was. -/
theorem reference_run (m : (ℓ : Loc Cert.ReferenceIdeal.nD Cert.ReferenceIdeal.τ Cert.ReferenceIdeal.sig) → Buf (Elt Ideal) ℓ) (ρ : Dev Cert.ReferenceIdeal.nD → PrngReg) :
    θ_run Cert.ReferenceIdeal.defs (onTc (τ := Cert.ReferenceIdeal.τ) (Cert.ReferenceIdeal.main (F := Ideal))) ⟨m, fun _ => 0, ρ⟩ fun r => ∀ c : Dev Cert.ReferenceIdeal.nD,
      r.2.mem ((c.tc : Thread Cert.ReferenceIdeal.nD Cert.ReferenceIdeal.τ).loc Cert.ReferenceIdeal.main_v1) = total (m ((c.tc : Thread Cert.ReferenceIdeal.nD Cert.ReferenceIdeal.τ).loc Cert.ReferenceIdeal.main_arg0))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0) :=
  (θ_run Cert.ReferenceIdeal.defs _ _).mono (fun _ h c => ⟨(h c).1.trans (reference_total _), (h c).2⟩) (Cert.ReferenceIdeal.Value.run m ρ)

end Cert.Exchange

end
-- ==== Proof.Machine.lean ====
/-
The program read at the machine's words is the one whose exchange the other modules run: the two printed texts say the
same, statement for statement, so the frame carries over.
-/
module

public import proofs.«01_k».proof.Proof.Value
public import proofs.«01_k».proof.Proof.Gen.Kernel

@[expose] public section

noncomputable section

namespace Cert.Exchange

open Idealize.ShloMosaic Idealize.SL.Sem

/-- The two texts' body tables agree: there is one label, and its bodies are the same statements. -/
theorem tables : Cert.Kernel.defs₀ (F := Bits) = Cert.KernelIdeal.defs₀ (F := Bits) := by
  refine congrArg (Defs.onTc (nD := 16) (τ := Topo.v7x) (sig := Cert.KernelIdeal.sig) (Λ := Cert.KernelIdeal.Λ₀)) (funext fun l => ?_)
  obtain rfl : l = (0 : Fin 1) := Subsingleton.elim _ _
  funext a
  obtain ⟨t, s⟩ := a
  show Cert.Kernel.cc0_body (F := Bits) _ _ _ _ _ _ _ _ _ _ = Cert.KernelIdeal.cc0_body (F := Bits) _ _ _ _ _ _ _ _ _ _
  rfl

/-- So do the tables with the region's pipeline added. -/
theorem regions : Cert.Kernel.defs (F := Bits) = Cert.KernelIdeal.defs (F := Bits) :=
  congrArg (Pipeline.defs Cert.KernelIdeal.pcfgs) tables

/-- The frame at the machine's words, under any table equal to the one that was run. -/
theorem frame_under (D) (hD : D = Cert.KernelIdeal.defs (F := Bits)) (m : (ℓ : Loc Cert.KernelIdeal.nD Cert.KernelIdeal.τ Cert.KernelIdeal.sig) → Buf (Elt Bits) ℓ)
    (ρ : Dev Cert.KernelIdeal.nD → PrngReg) :
    θ_run D (onTc (τ := Cert.KernelIdeal.τ) (Cert.KernelIdeal.main (F := Bits))) ⟨m, fun _ => 0, ρ⟩ fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0 := by
  subst hD
  exact frame m ρ

/-- The printed program runs, keeps its argument and ends with every counter at zero. -/
theorem frame_machine (m : (ℓ : Loc Cert.Kernel.nD Cert.Kernel.τ Cert.Kernel.sig) → Buf (Elt Bits) ℓ) (ρ : Dev Cert.Kernel.nD → PrngReg) :
    θ_run (Cert.Kernel.defs (F := Bits)) (onTc (τ := Cert.Kernel.τ) (Cert.Kernel.main (F := Bits))) ⟨m, fun _ => 0, ρ⟩ fun r =>
      (∀ c : Dev Cert.Kernel.nD, r.2.mem ((c.tc : Thread Cert.Kernel.nD Cert.Kernel.τ).loc Cert.Kernel.main_arg0)
        = m ((c.tc : Thread Cert.Kernel.nD Cert.Kernel.τ).loc Cert.Kernel.main_arg0)) ∧ r.2.sem = fun _ => 0 :=
  frame_under _ regions m ρ

end Cert.Exchange

end
-- ==== Proof.lean ====
module

public import proofs.«01_k».proof.Defs
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Value
public import proofs.«01_k».proof.Proof.Machine
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Exchange.frame_machine m ρ,
  fun m ρ _ => Cert.Exchange.frame (F := Ideal) m ρ,
  fun m ρ _ => (θ_run Cert.ReferenceIdeal.defs _ _).mono
    (fun r h => ⟨fun c => (h c).2, sem_eq_zero_of_no_sems (by decide) r.2⟩) (Cert.Exchange.reference_run m ρ),
  trivial,
  fun m ρ m' ρ' _ h => ⟨Cert.Exchange.total (m' (((0 : Dev Cert.ReferenceIdeal.nD).tc : Thread Cert.ReferenceIdeal.nD Cert.ReferenceIdeal.τ).loc Cert.ReferenceIdeal.main_arg0)),
    Cert.Exchange.run_total m ρ _ h,
    (θ_run Cert.ReferenceIdeal.defs _ _).mono (fun _ hr => hr 0) (Cert.Exchange.reference_run m' ρ')⟩⟩

end Cert.Proof

end
